-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d_out" .f32 0x39088889#32 ((1 / 7680 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_v5_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x2880 : Shape := ⟨3, ![2, 1024, 2880]⟩
abbrev S2x1024 : Shape := ⟨2, ![2, 1024]⟩
abbrev S7680x2880 : Shape := ⟨2, ![7680, 2880]⟩
abbrev S7680x45 : Shape := ⟨2, ![7680, 45]⟩
abbrev S7680 : Shape := ⟨1, ![7680]⟩
abbrev S2880 : Shape := ⟨1, ![2880]⟩
abbrev S2x1024x7680 : Shape := ⟨3, ![2, 1024, 7680]⟩
abbrev S2048x2880 : Shape := ⟨2, ![2048, 2880]⟩
abbrev S1x2048 : Shape := ⟨2, ![1, 2048]⟩
abbrev S30x1x256 : Shape := ⟨3, ![30, 1, 256]⟩
abbrev S1x2880 : Shape := ⟨2, ![1, 2880]⟩
abbrev S2048x7680 : Shape := ⟨2, ![2048, 7680]⟩
abbrev S256x2880 : Shape := ⟨2, ![256, 2880]⟩
abbrev S256x45 : Shape := ⟨2, ![256, 45]⟩
abbrev S1x1x256 : Shape := ⟨3, ![1, 1, 256]⟩
abbrev S2048x256 : Shape := ⟨2, ![2048, 256]⟩
abbrev S256x2048 : Shape := ⟨2, ![256, 2048]⟩
abbrev S256x128 : Shape := ⟨2, ![256, 128]⟩
abbrev S8x2048 : Shape := ⟨2, ![8, 2048]⟩
abbrev S8x2880 : Shape := ⟨2, ![8, 2880]⟩
abbrev S128x256 : Shape := ⟨2, ![128, 256]⟩
abbrev S1x256 : Shape := ⟨2, ![1, 256]⟩
abbrev S32x128 : Shape := ⟨2, ![32, 128]⟩
abbrev S32x128x1 : Shape := ⟨3, ![32, 128, 1]⟩
abbrev S1x128 : Shape := ⟨2, ![1, 128]⟩
abbrev S32x64 : Shape := ⟨2, ![32, 64]⟩
abbrev S1x64 : Shape := ⟨2, ![1, 64]⟩
abbrev S256x256 : Shape := ⟨2, ![256, 256]⟩
abbrev S32x8x256 : Shape := ⟨3, ![32, 8, 256]⟩
abbrev S8x256 : Shape := ⟨2, ![8, 256]⟩
abbrev S64x256 : Shape := ⟨2, ![64, 256]⟩
abbrev S256 : Shape := ⟨1, ![256]⟩
abbrev S2048x64 : Shape := ⟨2, ![2048, 64]⟩
abbrev S256x64 : Shape := ⟨2, ![256, 64]⟩
abbrev S8x64 : Shape := ⟨2, ![8, 64]⟩
abbrev S32x8x64 : Shape := ⟨3, ![32, 8, 64]⟩
abbrev S2048 : Shape := ⟨1, ![2048]⟩

abbrev nBuf : Space → Nat
  | .hbm => 20
  | .vmem => 36
  | .smem => 0
  | _ => 0

abbrev bufTy : (tb : Table) → Fin (tcTables nBuf tb) → BufTy
  | .hbm, ⟨0, _⟩ => ⟨S2x1024x2880, .fp8e4m3⟩
  | .hbm, ⟨1, _⟩ => ⟨S2x1024, .f32⟩
  | .hbm, ⟨2, _⟩ => ⟨S7680x2880, .f32⟩
  | .hbm, ⟨3, _⟩ => ⟨S7680x45, .f32⟩
  | .hbm, ⟨4, _⟩ => ⟨S7680x2880, .f32⟩
  | .hbm, ⟨5, _⟩ => ⟨S7680, .f32⟩
  | .hbm, ⟨6, _⟩ => ⟨S2880, .f32⟩
  | .hbm, ⟨7, _⟩ => ⟨S2x1024x7680, .bf16⟩
  | .hbm, ⟨8, _⟩ => ⟨S2048x2880, .fp8e4m3⟩
  | .hbm, ⟨9, _⟩ => ⟨S1x2048, .f32⟩
  | .hbm, ⟨10, _⟩ => ⟨S30x1x256, .f32⟩
  | .hbm, ⟨11, _⟩ => ⟨S1x2880, .f32⟩
  | .hbm, ⟨12, _⟩ => ⟨S2048x7680, .bf16⟩
  | .hbm, ⟨13, _⟩ => ⟨S1x2048, .f32⟩
  | .hbm, ⟨14, _⟩ => ⟨S7680x2880, .f32⟩
  | .hbm, ⟨15, _⟩ => ⟨S30x1x256, .f32⟩
  | .hbm, ⟨16, _⟩ => ⟨S1x2880, .f32⟩
  | .hbm, ⟨17, _⟩ => ⟨S7680x45, .f32⟩
  | .hbm, ⟨18, _⟩ => ⟨S7680x2880, .i8⟩
  | .hbm, ⟨19, _⟩ => ⟨S7680x45, .f32⟩
  | .local _ .vmem, ⟨0, _⟩ => ⟨S2048x2880, .fp8e4m3⟩
  | .local _ .vmem, ⟨1, _⟩ => ⟨S1x2048, .f32⟩
  | .local _ .vmem, ⟨2, _⟩ => ⟨S256x2880, .f32⟩
  | .local _ .vmem, ⟨3, _⟩ => ⟨S256x2880, .f32⟩
  | .local _ .vmem, ⟨4, _⟩ => ⟨S256x45, .f32⟩
  | .local _ .vmem, ⟨5, _⟩ => ⟨S256x45, .f32⟩
  | .local _ .vmem, ⟨6, _⟩ => ⟨S256x2880, .f32⟩
  | .local _ .vmem, ⟨7, _⟩ => ⟨S256x2880, .f32⟩
  | .local _ .vmem, ⟨8, _⟩ => ⟨S1x1x256, .f32⟩
  | .local _ .vmem, ⟨9, _⟩ => ⟨S1x1x256, .f32⟩
  | .local _ .vmem, ⟨10, _⟩ => ⟨S1x2880, .f32⟩
  | .local _ .vmem, ⟨11, _⟩ => ⟨S2048x256, .bf16⟩
  | .local _ .vmem, ⟨12, _⟩ => ⟨S2048x256, .bf16⟩
  | .local _ .vmem, ⟨13, _⟩ => ⟨S1x2048, .f32⟩
  | .local _ .vmem, ⟨14, _⟩ => ⟨S256x2880, .f32⟩
  | .local _ .vmem, ⟨15, _⟩ => ⟨S256x2880, .f32⟩
  | .local _ .vmem, ⟨16, _⟩ => ⟨S1x1x256, .f32⟩
  | .local _ .vmem, ⟨17, _⟩ => ⟨S1x1x256, .f32⟩
  | .local _ .vmem, ⟨18, _⟩ => ⟨S1x2880, .f32⟩
  | .local _ .vmem, ⟨19, _⟩ => ⟨S256x45, .f32⟩
  | .local _ .vmem, ⟨20, _⟩ => ⟨S256x45, .f32⟩
  | .local _ .vmem, ⟨21, _⟩ => ⟨S256x2880, .i8⟩
  | .local _ .vmem, ⟨22, _⟩ => ⟨S256x2880, .i8⟩
  | .local _ .vmem, ⟨23, _⟩ => ⟨S256x45, .f32⟩
  | .local _ .vmem, ⟨24, _⟩ => ⟨S256x45, .f32⟩
  | .local _ .vmem, ⟨25, _⟩ => ⟨S256x2880, .bf16⟩
  | .local _ .vmem, ⟨26, _⟩ => ⟨S256x2880, .f32⟩
  | .local _ .vmem, ⟨27, _⟩ => ⟨S256x2880, .f32⟩
  | .local _ .vmem, ⟨28, _⟩ => ⟨S256x2048, .bf16⟩
  | .local _ .vmem, ⟨29, _⟩ => ⟨S256x128, .f32⟩
  | .local _ .vmem, ⟨30, _⟩ => ⟨S256x128, .f32⟩
  | .local _ .vmem, ⟨31, _⟩ => ⟨S1x2048, .f32⟩
  | .local _ .vmem, ⟨32, _⟩ => ⟨S8x2048, .f32⟩
  | .local _ .vmem, ⟨33, _⟩ => ⟨S256x128, .f32⟩
  | .local _ .vmem, ⟨34, _⟩ => ⟨S8x2880, .f32⟩
  | .local _ .vmem, ⟨35, _⟩ => ⟨S128x256, .f32⟩
  | _, _ => ⟨S2x1024x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![30], ![false]⟩

def k0_cond2 (i : grid0.Coords) : BitVec 1 :=
  let arg0 : BitVec 32 := BitVec.ofNat 32 (i 0).val
  let c29_i32 : BitVec 32 := 29#32
  let v11238 : BitVec 1 := Scalar.cmpi .eq arg0 c29_i32
  let v11239 : BitVec 32 := Scalar.extui v11238
  let c0_i32_5289 : BitVec 32 := 0#32
  let v11240 : BitVec 1 := Scalar.cmpi .ne v11239 c0_i32_5289
  v11240

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x45 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2880 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2880 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2880 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x45 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2880 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x45 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "inv_d_out" => some ((1 / 7680 : ℝ) : EReal)
  | _ => none
-- ==== ReferenceIdeal.lean ====
abbrev S2x1024x2880 : Shape := ⟨3, ![2, 1024, 2880]⟩
abbrev S2x1024 : Shape := ⟨2, ![2, 1024]⟩
abbrev S7680x2880 : Shape := ⟨2, ![7680, 2880]⟩
abbrev S7680x45 : Shape := ⟨2, ![7680, 45]⟩
abbrev S7680 : Shape := ⟨1, ![7680]⟩
abbrev S2880 : Shape := ⟨1, ![2880]⟩
abbrev S2x1024x7680 : Shape := ⟨3, ![2, 1024, 7680]⟩
abbrev S2048x2880 : Shape := ⟨2, ![2048, 2880]⟩
abbrev S2048x1 : Shape := ⟨2, ![2048, 1]⟩
abbrev S7680x1 : Shape := ⟨2, ![7680, 1]⟩
abbrev S1x2880 : Shape := ⟨2, ![1, 2880]⟩
abbrev S2048x7680 : Shape := ⟨2, ![2048, 7680]⟩
abbrev S1x2048 : Shape := ⟨2, ![1, 2048]⟩
abbrev S30x1x256 : Shape := ⟨3, ![30, 1, 256]⟩
abbrev S7680x45x1 : Shape := ⟨3, ![7680, 45, 1]⟩
abbrev S7680x45x64 : Shape := ⟨3, ![7680, 45, 64]⟩
abbrev S2048 : Shape := ⟨1, ![2048]⟩

abbrev nBuf : Space → Nat
  | .hbm => 20
  | .vmem => 15
  | .smem => 0
  | _ => 0

abbrev bufTy : (tb : Table) → Fin (tcTables nBuf tb) → BufTy
  | .hbm, ⟨0, _⟩ => ⟨S2x1024x2880, .fp8e4m3⟩
  | .hbm, ⟨1, _⟩ => ⟨S2x1024, .f32⟩
  | .hbm, ⟨2, _⟩ => ⟨S7680x2880, .f32⟩
  | .hbm, ⟨3, _⟩ => ⟨S7680x45, .f32⟩
  | .hbm, ⟨4, _⟩ => ⟨S7680x2880, .f32⟩
  | .hbm, ⟨5, _⟩ => ⟨S7680, .f32⟩
  | .hbm, ⟨6, _⟩ => ⟨S2880, .f32⟩
  | .hbm, ⟨7, _⟩ => ⟨S2x1024x7680, .bf16⟩
  | .hbm, ⟨8, _⟩ => ⟨S2048x2880, .fp8e4m3⟩
  | .hbm, ⟨9, _⟩ => ⟨S2048x1, .f32⟩
  | .hbm, ⟨10, _⟩ => ⟨S7680x1, .f32⟩
  | .hbm, ⟨11, _⟩ => ⟨S1x2880, .f32⟩
  | .hbm, ⟨12, _⟩ => ⟨S2048x7680, .bf16⟩
  | .hbm, ⟨13, _⟩ => ⟨S1x2048, .f32⟩
  | .hbm, ⟨14, _⟩ => ⟨S7680x2880, .f32⟩
  | .hbm, ⟨15, _⟩ => ⟨S30x1x256, .f32⟩
  | .hbm, ⟨16, _⟩ => ⟨S1x2880, .f32⟩
  | .hbm, ⟨17, _⟩ => ⟨S7680x45, .f32⟩
  | .hbm, ⟨18, _⟩ => ⟨S7680x2880, .i8⟩
  | .hbm, ⟨19, _⟩ => ⟨S7680x45, .f32⟩
  | .local _ .vmem, ⟨0, _⟩ => ⟨S2048x2880, .fp8e4m3⟩
  | .local _ .vmem, ⟨1, _⟩ => ⟨S2048x1, .f32⟩
  | .local _ .vmem, ⟨2, _⟩ => ⟨S7680x2880, .f32⟩
  | .local _ .vmem, ⟨3, _⟩ => ⟨S7680x45, .f32⟩
  | .local _ .vmem, ⟨4, _⟩ => ⟨S7680x2880, .f32⟩
  | .local _ .vmem, ⟨5, _⟩ => ⟨S7680x1, .f32⟩
  | .local _ .vmem, ⟨6, _⟩ => ⟨S1x2880, .f32⟩
  | .local _ .vmem, ⟨7, _⟩ => ⟨S2048x7680, .bf16⟩
  | .local _ .vmem, ⟨8, _⟩ => ⟨S1x2048, .f32⟩
  | .local _ .vmem, ⟨9, _⟩ => ⟨S7680x2880, .f32⟩
  | .local _ .vmem, ⟨10, _⟩ => ⟨S30x1x256, .f32⟩
  | .local _ .vmem, ⟨11, _⟩ => ⟨S1x2880, .f32⟩
  | .local _ .vmem, ⟨12, _⟩ => ⟨S7680x45, .f32⟩
  | .local _ .vmem, ⟨13, _⟩ => ⟨S7680x2880, .i8⟩
  | .local _ .vmem, ⟨14, _⟩ => ⟨S7680x45, .f32⟩
  | _, _ => ⟨S2x1024x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2048x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7680x2880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x45 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7680x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x7680 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x2880 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S30x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2880 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7680x45 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7680x2880 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7680x45 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Spec.lean ====
/- The mathematics of one output row, over the extended reals: the quantiser, the forward product, the residual and
   the gradients, each as a plain function of that row's operands. Both programs are read against these functions. -/
module

public import Idealize.ShloMosaic.Lib.Pointwise

@[expose] public section

noncomputable section

namespace Cert.Spec

open Idealize.ShloMosaic

/-- The quantised value of `z`: rounded to nearest, ties to even, then clipped to `[-8, 7]`. -/
def code (z : EReal) : EReal :=
  min (((7#32).toInt : ℝ) : EReal) (max (((4294967288#32).toInt : ℝ) : EReal) (Ideal.liftRound Ideal.roundHalfEven z))

/-- The word that says whether `z` is in the range `[-8.5, 7.5)` in which the quantiser passes a gradient. -/
def keep (z : EReal) : BitVec 1 :=
  IntOp.andi (BitVec.ofBool (decide (Ideal.ofBits .f32 0xC1080000#32 ≤ z)))
    (BitVec.ofBool (decide (z < Ideal.ofBits .f32 0x40F00000#32)))

/-- `z` where the quantiser passes a gradient, and zero elsewhere. -/
def masked (z : EReal) : EReal := Scalar.select (keep z) z 0

/-- The operands one output row depends on: the row of the weights `w`, its group scales `s1`, its rounding
    offsets `s2` and `r`, its column of targets `yt`; and the operands all rows share: the inputs `x`, their
    token scales `xs` and the column offsets `c`. -/
structure Row where
  x : Fin 2048 → Fin 2880 → EReal
  xs : Fin 2048 → EReal
  w : Fin 2880 → EReal
  s1 : Fin 45 → EReal
  s2 : Fin 2880 → EReal
  r : EReal
  c : Fin 2880 → EReal
  yt : Fin 2048 → EReal

namespace Row

variable (R : Row)

/-- The scale of column `k`: one per group of 64 columns. -/
def s1f (k : Fin 2880) : EReal := R.s1 ⟨k.val / 64, by omega⟩

/-- The weight over its scale, before rounding. -/
def z (k : Fin 2880) : EReal := Ideal.div (R.w k) (R.s1f k * Ideal.exp (R.s2 k + R.r + R.c k))

/-- The dequantised weight. -/
def wq (k : Fin 2880) : EReal := code (R.z k) * R.s1f k

/-- The residual of token `t`: scaled product less target. -/
def res (t : Fin 2048) : EReal := (∑ k, R.x t k * R.wq k) * R.xs t - R.yt t

/-- The squared residual. -/
def sq (t : Fin 2048) : EReal := R.res t * R.res t

/-- The gradient that reaches the product of token `t`. -/
def e (t : Fin 2048) : EReal := R.res t * (R.xs t * Ideal.ofBits .f32 0x34088889#32)

/-- The gradient of the dequantised weight. -/
def g (k : Fin 2880) : EReal := ∑ t, R.e t * R.x t k

/-- The coefficient of `g` in the gradient of `s2`. -/
def a (k : Fin 2880) : EReal := 0 - R.s1f k * masked (R.z k)

/-- The coefficient of `g` in the gradient of `s1`. -/
def b (k : Fin 2880) : EReal := code (R.z k) - masked (R.z k)

/-- The gradient of `s2`. -/
def ds2 (k : Fin 2880) : EReal := R.a k * R.g k

/-- The gradient of `r`. -/
def dr : EReal := ∑ k, R.ds2 k

/-- The gradient of `s1`, group `j`. -/
def ds1 (j : Fin 45) : EReal := ∑ l : Fin 64, R.b ⟨j.val * 64 + l.val, by omega⟩ * R.g ⟨j.val * 64 + l.val, by omega⟩

/-- The stored code of column `k`. -/
def codeWord (k : Fin 2880) : BitVec 8 := Ideal.fptosi 8 (code (R.z k))

end Row

/-- Output row `o` of the argument arrays, in the order the programs take them. -/
def argRow (x : FVec Ideal ⟨3, ![2, 1024, 2880]⟩ .fp8e4m3) (xs : FVec Ideal ⟨2, ![2, 1024]⟩ .f32)
    (w : FVec Ideal ⟨2, ![7680, 2880]⟩ .f32) (s1 : FVec Ideal ⟨2, ![7680, 45]⟩ .f32)
    (s2 : FVec Ideal ⟨2, ![7680, 2880]⟩ .f32) (r : FVec Ideal ⟨1, ![7680]⟩ .f32) (c : FVec Ideal ⟨1, ![2880]⟩ .f32)
    (yt : FVec Ideal ⟨3, ![2, 1024, 7680]⟩ .bf16) (o : Fin 7680) : Row where
  x t k := x (ix3 ⟨t.val / 1024, by omega⟩ ⟨t.val % 1024, by omega⟩ k)
  xs t := xs (ix2 ⟨t.val / 1024, by omega⟩ ⟨t.val % 1024, by omega⟩)
  w k := w (ix2 o k)
  s1 j := s1 (ix2 o j)
  s2 k := s2 (ix2 o k)
  r := r (ix1 o)
  c k := c (ix1 k)
  yt t := yt (ix3 ⟨t.val / 1024, by omega⟩ ⟨t.val % 1024, by omega⟩ o)

/-- A code is an integer between -8 and 7. -/
theorem code_int (z : EReal) : ∃ n : ℤ, -8 ≤ n ∧ n ≤ 7 ∧ code z = ((n : ℝ) : EReal) := by
  have h7 : (7#32).toInt = 7 := by decide
  have h8 : (4294967288#32).toInt = -8 := by decide
  unfold code
  rw [h7, h8]
  induction z using EReal.rec with
  | bot => exact ⟨-8, by norm_num, by norm_num, by rw [Ideal.liftRound_bot, max_eq_left bot_le, ← EReal.coe_strictMono.monotone.map_min]; norm_num⟩
  | top => exact ⟨7, by norm_num, by norm_num, by rw [Ideal.liftRound_top, max_eq_right le_top, min_eq_left le_top]⟩
  | coe r =>
    refine ⟨min 7 (max (-8) (Ideal.roundHalfEven r)), by omega, by omega, ?_⟩
    rw [Ideal.liftRound_coe, ← EReal.coe_strictMono.monotone.map_max, ← EReal.coe_strictMono.monotone.map_min]
    push_cast
    rfl

/-- Storing a code as a signed byte and reading it back gives the code. -/
theorem sitofp_codeWord (z : EReal) : ((((Ideal.fptosi 8 (code z)).toInt : ℤ) : ℝ) : EReal) = code z := by
  obtain ⟨n, h1, h2, h⟩ := code_int z
  have ht : Ideal.toIntClamped (-(2 ^ (8 - 1) : Nat)) ((2 ^ (8 - 1) : Nat) - 1) ((n : ℝ) : EReal) = n := by
    show max _ (min _ (if (0 : ℝ) ≤ n then ⌊(n : ℝ)⌋ else ⌈(n : ℝ)⌉)) = n
    rw [Int.floor_intCast, Int.ceil_intCast, ite_self]
    norm_num
    omega
  rw [h, Ideal.fptosi, ht, BitVec.toInt_ofInt]
  congr 2
  rw [Int.bmod_eq_of_le] <;> norm_num <;> omega

/-- The word `7680.0` denotes the real `7680`. -/
theorem ofBits_7680 : Ideal.ofBits .f32 0x45F00000#32 = ((7680 : ℝ) : EReal) := by
  simp [Ideal.ofBits, Ideal.ieee, -EReal.coe_mul]; norm_num

/-- Dividing by `7680.0` is multiplying by the real `1 / 7680`. -/
theorem div_7680 (y : EReal) : Ideal.div y (Ideal.ofBits .f32 0x45F00000#32) = y * ((1 / 7680 : ℝ) : EReal) := by
  rw [ofBits_7680, Ideal.div_coe (by norm_num)]

end Cert.Spec

end
-- ==== Proof.Reference.lean ====
/- The reference's payloads, read at an index, are the row functions of Proof/Spec.lean. -/
module

public import proofs.«01_k».proof.Proof.Spec
public import proofs.«01_k».proof.Proof.Gen.ReferenceIdeal.Skeleton

@[expose] public section

set_option maxRecDepth 16384

noncomputable section

namespace Cert.RefValue

open Idealize.ShloMosaic Idealize.ShloMosaic.TcCoe Idealize.SL.Sem
open Cert.ReferenceIdeal Cert.ReferenceIdeal.Gen Cert.Spec

variable (x : Vec Ideal S2048x2880 .fp8e4m3) (xs : Vec Ideal S2048x1 .f32) (w : Vec Ideal S7680x2880 .f32)
  (s1 : Vec Ideal S7680x45 .f32) (s2 : Vec Ideal S7680x2880 .f32) (r : Vec Ideal S7680x1 .f32)
  (c : Vec Ideal S1x2880 .f32) (yt : Vec Ideal S2048x7680 .bf16)

/-- Row `o` of the reference's operands. -/
def row (o : Fin 7680) : Row where
  x t k := x (ix2 t k)
  xs t := xs (ix2 t 0)
  w k := w (ix2 o k)
  s1 j := s1 (ix2 o j)
  s2 k := s2 (ix2 o k)
  r := r (ix2 o 0)
  c k := c (ix2 0 k)
  yt t := yt (ix2 t o)

/-- The quotient. -/
theorem z_at (o : Fin 7680) (k : Fin 2880) : k0_pay3 (F := Ideal) s1 s2 r c w (ix2 o k) = (row x xs w s1 s2 r c yt o).z k := by
  pointwise [k0_pay3, k0_pay2]; rfl

/-- The stored codes. -/
theorem codes_at (o : Fin 7680) (k : Fin 2880) :
    k0_pay4 (F := Ideal) s1 s2 r c w (ix2 o k) = (row x xs w s1 s2 r c yt o).codeWord k := by
  pointwise [k0_pay4]
  rw [z_at x xs w s1 s2 r c yt o k]; rfl

/-- The dequantised weights. -/
theorem wq_at (o : Fin 7680) (k : Fin 2880) :
    k0_pay6 (F := Ideal) s1 s2 r c w (ix2 o k) = (row x xs w s1 s2 r c yt o).wq k := by
  pointwise [k0_pay6]
  rw [codes_at x xs w s1 s2 r c yt o k]
  exact congrArg (· * _) (sitofp_codeWord _)

/-- The mask times the quotient. -/
theorem mz_at (o : Fin 7680) (k : Fin 2880) :
    k0_pay12 (F := Ideal) (k0_pay3 s1 s2 r c w) (k0_pay5 s1 s2 r c w) (ix2 o k) = masked ((row x xs w s1 s2 r c yt o).z k) := by
  pointwise [k0_pay12, k0_pay5]
  rw [z_at x xs w s1 s2 r c yt o k]
  rfl

/-- The residuals. -/
theorem res_at (t : Fin 2048) (o : Fin 7680) :
    k0_pay9 (F := Ideal) (k0_pay6 s1 s2 r c w) x xs yt (ix2 t o) = (row x xs w s1 s2 r c yt o).res t := by
  pointwise [k0_pay9, k0_pay8, k0_pay7]
  simp only [wq_at x xs w s1 s2 r c yt]
  rfl

/-- The loss. -/
theorem loss_at (t : Fin 2048) :
    k0_pay10 (F := Ideal) (k0_pay6 s1 s2 r c w) x xs yt (ix2 0 t)
      = (∑ o, (row x xs w s1 s2 r c yt o).sq t) * ((1 / 7680 : ℝ) : EReal) := by
  pointwise [k0_pay10]
  simp only [res_at x xs w s1 s2 r c yt]
  exact div_7680 _

/-- The gradient of the dequantised weights. -/
theorem g_at (o : Fin 7680) (k : Fin 2880) :
    k0_pay11 (F := Ideal) (k0_pay6 s1 s2 r c w) x xs yt (ix2 o k) = (row x xs w s1 s2 r c yt o).g k := by
  pointwise [k0_pay11, k0_pay8, k0_pay7]
  simp only [res_at x xs w s1 s2 r c yt]
  exact Finset.sum_congr rfl fun t _ => congrArg (· * _) (mul_assoc _ _ _)

/-- The gradient of `s2`. -/
theorem ds2_at (o : Fin 7680) (k : Fin 2880) :
    k0_pay13 (F := Ideal) (k0_pay2 s1) (k0_pay3 s1 s2 r c w) (k0_pay5 s1 s2 r c w) (k0_pay6 s1 s2 r c w) x xs yt (ix2 o k)
      = (row x xs w s1 s2 r c yt o).ds2 k := by
  pointwise [k0_pay13, k0_pay2]
  rw [mz_at x xs w s1 s2 r c yt o k, g_at x xs w s1 s2 r c yt o k]
  refine congrArg (· * _) ?_
  show (0 - (row x xs w s1 s2 r c yt o).s1f k) * _ = 0 - (row x xs w s1 s2 r c yt o).s1f k * _
  rw [zero_sub, zero_sub, EReal.neg_mul]

/-- The gradient of `r`. -/
theorem dr_at (i : Fin 30) (q : Fin 256) :
    k0_pay14 (F := Ideal) (k0_pay2 s1) (k0_pay3 s1 s2 r c w) (k0_pay5 s1 s2 r c w) (k0_pay6 s1 s2 r c w) x xs yt (ix3 i 0 q)
      = (row x xs w s1 s2 r c yt ⟨i.val * 256 + q.val, by omega⟩).dr := by
  pointwise [k0_pay14]
  simp only [ds2_at x xs w s1 s2 r c yt]
  rfl

/-- The gradient of `c`. -/
theorem dc_at (k : Fin 2880) :
    k0_pay15 (F := Ideal) (k0_pay2 s1) (k0_pay3 s1 s2 r c w) (k0_pay5 s1 s2 r c w) (k0_pay6 s1 s2 r c w) x xs yt (ix2 0 k)
      = ∑ o, (row x xs w s1 s2 r c yt o).ds2 k := by
  pointwise [k0_pay15]
  simp only [ds2_at x xs w s1 s2 r c yt]

/-- The gradient of `s1`. -/
theorem ds1_at (o : Fin 7680) (j : Fin 45) :
    k0_pay1 (F := Ideal) (k0_pay4 s1 s2 r c w) (k0_pay11 (k0_pay6 s1 s2 r c w) x xs yt) (k0_pay12 (k0_pay3 s1 s2 r c w) (k0_pay5 s1 s2 r c w)) (ix2 o j)
      = (row x xs w s1 s2 r c yt o).ds1 j := by
  pointwise [k0_pay1]
  simp only [mz_at x xs w s1 s2 r c yt, g_at x xs w s1 s2 r c yt, codes_at x xs w s1 s2 r c yt]
  refine Finset.sum_congr rfl fun l _ => (mul_comm _ _).trans (congrArg (· * _) ?_)
  exact congrArg (· - _) (sitofp_codeWord _)

end Cert.RefValue

end
-- ==== Proof.RefRun.lean ====
/- The reference's result arrays after its run, as the row functions of Proof/Spec.lean. -/
module

public import proofs.«01_k».proof.Proof.Reference
public import proofs.«01_k».proof.Proof.Gen.ReferenceIdeal.Value
public import Idealize.ShloMosaic.Lib.Pipeline.ValueKit

@[expose] public section

set_option maxRecDepth 16384

noncomputable section

namespace Cert.RefValue

open Idealize.ShloMosaic Idealize.ShloMosaic.TcCoe Idealize.SL.Sem
open Cert.ReferenceIdeal Cert.ReferenceIdeal.Gen Cert.Spec

variable (m : (ℓ : Loc nD τ sig) → Buf (Elt Ideal) ℓ)

/-- Every window's block index at the one grid point is zero. -/
theorem idx_val : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0, 0]
    ∧ win0_11.index t = ![0, 0] ∧ win0_12.index t = ![0, 0] ∧ win0_13.index t = ![0, 0] ∧ win0_14.index t = ![0, 0] :=
  (by decide +kernel : ∀ t : Fin grid0.N, _)

variable (c : Dev nD) (t : Fin cfg0.N)

/-! At the one grid point each window's block is its whole array. -/

/-- The activation codes. -/
theorem iblk0 : iblk m c 0 t = V m c main_v0 := by blk_ext! [iblk, idx_val t]
/-- The token scales. -/
theorem iblk1 : iblk m c 1 t = V m c main_v1 := by blk_ext! [iblk, idx_val t]
/-- The weights. -/
theorem iblk2 : iblk m c 2 t = V m c main_arg2 := by blk_ext! [iblk, idx_val t]
/-- The scales `s1`. -/
theorem iblk3 : iblk m c 3 t = V m c main_arg3 := by blk_ext! [iblk, idx_val t]
/-- The `s2`. -/
theorem iblk4 : iblk m c 4 t = V m c main_arg4 := by blk_ext! [iblk, idx_val t]
/-- The row offsets `r`. -/
theorem iblk5 : iblk m c 5 t = V m c main_v2 := by blk_ext! [iblk, idx_val t]
/-- The column offsets `c`. -/
theorem iblk6 : iblk m c 6 t = V m c main_v3 := by blk_ext! [iblk, idx_val t]
/-- The targets. -/
theorem iblk7 : iblk m c 7 t = V m c main_v4 := by blk_ext! [iblk, idx_val t]

/-! The reshaped operands at an index. -/

/-- The activation codes, as the region reads them, in their argument array. -/
theorem V0_at (t : Fin 2048) (k : Fin 2880) : V m c main_v0 (ix2 t k) = m ((c : Thread nD τ).loc main_arg0) (ix3 ⟨t.val / 1024, by omega⟩ ⟨t.val % 1024, by omega⟩ k) := by
  entry_read; pointwise
/-- The token scales, as the region reads them, in their argument array. -/
theorem V1_at (t : Fin 2048) : V m c main_v1 (ix2 t 0) = m ((c : Thread nD τ).loc main_arg1) (ix2 ⟨t.val / 1024, by omega⟩ ⟨t.val % 1024, by omega⟩) := by
  entry_read; pointwise
/-- The row offsets `r`, as the region reads them, in their argument array. -/
theorem V2_at (o : Fin 7680) : V m c main_v2 (ix2 o 0) = m ((c : Thread nD τ).loc main_arg5) (ix1 o) := by
  entry_read; pointwise
/-- The column offsets `c`, as the region reads them, in their argument array. -/
theorem V3_at (k : Fin 2880) : V m c main_v3 (ix2 0 k) = m ((c : Thread nD τ).loc main_arg6) (ix1 k) := by
  entry_read; pointwise
/-- The targets, as the region reads them, in their argument array. -/
theorem V4_at (t : Fin 2048) (o : Fin 7680) : V m c main_v4 (ix2 t o) = m ((c : Thread nD τ).loc main_arg7) (ix3 ⟨t.val / 1024, by omega⟩ ⟨t.val % 1024, by omega⟩ o) := by
  entry_read; pointwise

/-- Row `o` of the argument arrays at device `c`. -/
abbrev R (o : Fin 7680) : Row :=
  argRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) o

/-- Row `o` of the arrays the region reads is row `o` of the argument arrays. -/
theorem row_eq (o : Fin 7680) :
    row (V m c main_v0) (V m c main_v1) (V m c main_arg2) (V m c main_arg3) (V m c main_arg4) (V m c main_v2) (V m c main_v3) (V m c main_v4) o
      = R m c o := by
  unfold row R argRow
  congr 1
  · exact funext fun t => funext fun k => V0_at m c t k
  · exact funext fun t => V1_at m c t
  · exact V2_at m c o
  · exact funext fun k => V3_at m c k
  · exact funext fun t => V4_at m c t o

/-! Each result array after the run. -/

/-- Result 0, the loss: the mean square of a token's residuals. -/
theorem final8 : (dats m 0 c).arrAt 8 cfg0.N = fun j => (∑ o, (R m c o).sq (j 1)) * ((1 / 7680 : ℝ) : EReal) := by
  refine (dats m 0 c).arrAt_eq_of_after_last 8 t0_0 (by decide +kernel) _ fun j => ?_
  blk_simp; rw [after0_8]; frame_out
  try unfold k0_pay21
  try unfold k0_pay20
  simp only [iblk0, iblk1, iblk2, iblk3, iblk4, iblk5, iblk6, iblk7]
  frame_out
  simp only [← row_eq]
  idx_vars j
  obtain rfl : j0 = 0 := Subsingleton.elim _ _; exact loss_at (V m c main_v0) (V m c main_v1) (V m c main_arg2) (V m c main_arg3) (V m c main_arg4) (V m c main_v2) (V m c main_v3) (V m c main_v4) (j1)

/-- Result 1, the gradient of `s2`. -/
theorem final9 : (dats m 0 c).arrAt 9 cfg0.N = fun j => (R m c (j 0)).ds2 (j 1) := by
  refine (dats m 0 c).arrAt_eq_of_after_last 9 t0_0 (by decide +kernel) _ fun j => ?_
  blk_simp; rw [after0_9]; frame_out
  try unfold k0_pay21
  try unfold k0_pay16 k0_pay17 k0_pay19 k0_pay20
  simp only [iblk0, iblk1, iblk2, iblk3, iblk4, iblk5, iblk6, iblk7]
  frame_out
  idx_vars j
  exact (ds2_at (V m c main_v0) (V m c main_v1) (V m c main_arg2) (V m c main_arg3) (V m c main_arg4) (V m c main_v2) (V m c main_v3) (V m c main_v4) j0 j1).trans (congrArg (fun R : Row => R.ds2 j1) (row_eq m c j0))

/-- Result 2, the gradient of `r`, in rows of 256. -/
theorem final10 : (dats m 0 c).arrAt 10 cfg0.N = fun j => (R m c ⟨(j 0).val * 256 + (j 2).val, by have h0 : (j 0).val < 30 := (j 0).isLt; have h2 : (j 2).val < 256 := (j 2).isLt; omega⟩).dr := by
  refine (dats m 0 c).arrAt_eq_of_after_last 10 t0_0 (by decide +kernel) _ fun j => ?_
  blk_simp; rw [after0_10]; frame_out
  try unfold k0_pay21
  try unfold k0_pay16 k0_pay17 k0_pay19 k0_pay20
  simp only [iblk0, iblk1, iblk2, iblk3, iblk4, iblk5, iblk6, iblk7]
  frame_out
  simp only [← row_eq]
  idx_vars j
  obtain rfl : j1 = 0 := Subsingleton.elim _ _; exact dr_at (V m c main_v0) (V m c main_v1) (V m c main_arg2) (V m c main_arg3) (V m c main_arg4) (V m c main_v2) (V m c main_v3) (V m c main_v4) j0 j2

/-- Result 3, the gradient of `c`. -/
theorem final11 : (dats m 0 c).arrAt 11 cfg0.N = fun j => ∑ o, (R m c o).ds2 (j 1) := by
  refine (dats m 0 c).arrAt_eq_of_after_last 11 t0_0 (by decide +kernel) _ fun j => ?_
  blk_simp; rw [after0_11]; frame_out
  try unfold k0_pay21
  try unfold k0_pay16 k0_pay17 k0_pay19 k0_pay20
  simp only [iblk0, iblk1, iblk2, iblk3, iblk4, iblk5, iblk6, iblk7]
  frame_out
  simp only [← row_eq]
  idx_vars j
  obtain rfl : j0 = 0 := Subsingleton.elim _ _; exact dc_at (V m c main_v0) (V m c main_v1) (V m c main_arg2) (V m c main_arg3) (V m c main_arg4) (V m c main_v2) (V m c main_v3) (V m c main_v4) j1

/-- Result 4, the gradient of `s1`. -/
theorem final12 : (dats m 0 c).arrAt 12 cfg0.N = fun j => (R m c (j 0)).ds1 (j 1) := by
  refine (dats m 0 c).arrAt_eq_of_after_last 12 t0_0 (by decide +kernel) _ fun j => ?_
  blk_simp; rw [after0_12]; frame_out
  try unfold k0_pay21
  try unfold k0_pay17 k0_pay18 k0_pay19 k0_pay20
  simp only [iblk0, iblk1, iblk2, iblk3, iblk4, iblk5, iblk6, iblk7]
  frame_out
  idx_vars j
  exact (ds1_at (V m c main_v0) (V m c main_v1) (V m c main_arg2) (V m c main_arg3) (V m c main_arg4) (V m c main_v2) (V m c main_v3) (V m c main_v4) j0 j1).trans (congrArg (fun R : Row => R.ds1 j1) (row_eq m c j0))

/-- Result 5, the codes. -/
theorem final13 : (dats m 0 c).arrAt 13 cfg0.N = fun j => (R m c (j 0)).codeWord (j 1) := by
  refine (dats m 0 c).arrAt_eq_of_after_last 13 t0_0 (by decide +kernel) _ fun j => ?_
  blk_simp; rw [after0_13]; frame_out
  try unfold k0_pay21
  try unfold k0_pay18
  simp only [iblk0, iblk1, iblk2, iblk3, iblk4, iblk5, iblk6, iblk7]
  frame_out
  idx_vars j
  exact (codes_at (V m c main_v0) (V m c main_v1) (V m c main_arg2) (V m c main_arg3) (V m c main_arg4) (V m c main_v2) (V m c main_v3) (V m c main_v4) j0 j1).trans (congrArg (fun R : Row => R.codeWord j1) (row_eq m c j0))

/-- Result 6, the scales: a copy of `s1`. -/
theorem final14 : (dats m 0 c).arrAt 14 cfg0.N = m ((c : Thread nD τ).loc main_arg3) := by
  refine (dats m 0 c).arrAt_eq_of_after_last 14 t0_0 (by decide +kernel) _ fun j => ?_
  blk_simp; rw [after0_14]; frame_out
  blk_point [iblk, V, idx_val t0_0]

end Cert.RefValue

end
-- ==== Proof.KBlock.lean ====
/- The block a grid point works on: its rows, and how its loads and stores read at an index. -/
module

public import proofs.«01_k».proof.Proof.Spec
public import proofs.«01_k».proof.Proof.Gen.KernelIdeal.Skeleton
public import Idealize.ShloMosaic.Lib.Pointwise
public import Idealize.ShloMosaic.Lib.Pipeline.ReadBack

@[expose] public section

noncomputable section

namespace Cert.KBlock

open Idealize.ShloMosaic Idealize.ShloMosaic.TcCoe Cert.KernelIdeal Cert.KernelIdeal.Gen Cert.Spec

/-- One output row of the block a grid point works on: row `r` of the eight blocks it loads. -/
def krow (x0 : Vec Ideal S2048x2880 .fp8e4m3) (x1 : Vec Ideal S1x2048 .f32) (x2 : Vec Ideal S256x2880 .f32)
    (x3 : Vec Ideal S256x45 .f32) (x4 : Vec Ideal S256x2880 .f32) (x5 : Vec Ideal S1x1x256 .f32)
    (x6 : Vec Ideal S1x2880 .f32) (x7 : Vec Ideal S2048x256 .bf16) (r : Fin 256) : Row where
  x t k := x0 (ix2 t k)
  xs t := x1 (ix2 0 t)
  w k := x2 (ix2 r k)
  s1 j := x3 (ix2 r j)
  s2 k := x4 (ix2 r k)
  r := x5 (ix3 0 0 r)
  c k := x6 (ix2 0 k)
  yt t := x7 (ix2 t r)

/-- A load of a rectangle of a whole input buffer reads the input at the rectangle's offset. -/
theorem read2 {n0 n1 b0 b1 : ℕ} {e : EltTy} (m : Memref sig .tc .vmem ⟨2, ![n0, n1]⟩ e) (h : m.IsWhole)
    (x : Vec Ideal ⟨2, ![n0, n1]⟩ e) (o0 o1 : ℕ) (inb) (i : Fin b0) (j : Fin b1)
    (hi : o0 + i.val < n0) (hj : o1 + j.val < n1) :
    (View.readAt (Elt Ideal) m.view (Rect.unit (s := ⟨2, ![n0, n1]⟩) ![o0, o1] ![b0, b1] inb).toLoadRect (h.unread x) :
      Vec Ideal ⟨2, ![b0, b1]⟩ e) (ix2 i j)
      = x (ix2 ⟨o0 + i, hi⟩ ⟨o1 + j, hj⟩) := by
  rw [View.readAt_eq_ld, h.read_unread]
  show x _ = x _
  congr 1
  funext a
  fin_cases a <;> (apply Fin.ext; simp [Rect.emb, Rect.unit, ix2])

/-- The same for a buffer of three dimensions. -/
theorem read3 {n0 n1 n2 b0 b1 b2 : ℕ} {e : EltTy} (m : Memref sig .tc .vmem ⟨3, ![n0, n1, n2]⟩ e) (h : m.IsWhole)
    (x : Vec Ideal ⟨3, ![n0, n1, n2]⟩ e) (o0 o1 o2 : ℕ) (inb) (i : Fin b0) (j : Fin b1) (k : Fin b2)
    (hi : o0 + i.val < n0) (hj : o1 + j.val < n1) (hk : o2 + k.val < n2) :
    (View.readAt (Elt Ideal) m.view (Rect.unit (s := ⟨3, ![n0, n1, n2]⟩) ![o0, o1, o2] ![b0, b1, b2] inb).toLoadRect
      (h.unread x) : Vec Ideal ⟨3, ![b0, b1, b2]⟩ e) (ix3 i j k)
      = x (ix3 ⟨o0 + i, hi⟩ ⟨o1 + j, hj⟩ ⟨o2 + k, hk⟩) := by
  rw [View.readAt_eq_ld, h.read_unread]
  show x _ = x _
  congr 1
  funext a
  fin_cases a <;> (apply Fin.ext; simp [Rect.emb, Rect.unit, ix3])

/-- The lane a group gather reads: lane `l` of the block that starts at group `n` is in group `n + l / 64`. -/
theorem lane_eq (n : ℕ) (hn : n < 64) (l : ℕ) (hl : l < 128) :
    (Scalar.select (IntOp.cmpi .slt (IntOp.addi (BitVec.ofNat 32 n)
        (BitVec.setWidth 32 (IntOp.cmpi .sge (BitVec.ofNat 32 l) 64#32))) 0#32)
      (IntOp.addi (IntOp.addi (BitVec.ofNat 32 n)
        (BitVec.setWidth 32 (IntOp.cmpi .sge (BitVec.ofNat 32 l) 64#32))) 128#32)
      (IntOp.addi (BitVec.ofNat 32 n)
        (BitVec.setWidth 32 (IntOp.cmpi .sge (BitVec.ofNat 32 l) 64#32)))).toNat % 128 = (n * 64 + l) / 64 := by
  have key : ∀ (n : Fin 64) (b : Fin 2), (Scalar.select (IntOp.cmpi .slt (IntOp.addi (BitVec.ofNat 32 n)
        (BitVec.setWidth 32 (BitVec.ofNat 1 b))) 0#32)
      (IntOp.addi (IntOp.addi (BitVec.ofNat 32 n)
        (BitVec.setWidth 32 (BitVec.ofNat 1 b))) 128#32)
      (IntOp.addi (BitVec.ofNat 32 n)
        (BitVec.setWidth 32 (BitVec.ofNat 1 b)))).toNat % 128 = n + b := by decide +kernel
  have hb : ∀ l : Fin 128, IntOp.cmpi .sge (BitVec.ofNat 32 l) 64#32 = BitVec.ofNat 1 (l / 64) := by decide +kernel
  rw [hb ⟨l, hl⟩]
  have := key ⟨n, hn⟩ ⟨l / 64, by omega⟩
  simp only at this ⊢
  rw [this]
  omega

/-- A load of a written buffer, at an index the last store covers, reads the last store's payload. -/
theorem canon_head2 {n0 n1 p0 p1 : ℕ} {e : EltTy} (L : List (View.Piece (Elt Ideal) ⟨2, ![n0, n1]⟩ e))
    (q0 q1 : ℕ) (inb) (p : Vec Ideal ⟨2, ![p0, p1]⟩ e) (y : Shape.Idx ⟨2, ![n0, n1]⟩) (i : Fin p0) (j : Fin p1)
    (hi : (y 0).val = q0 + i.val) (hj : (y 1).val = q1 + j.val) :
    View.canon ((⟨Rect.unit (s := ⟨2, ![n0, n1]⟩) ![q0, q1] ![p0, p1] inb, p⟩ : View.Piece (Elt Ideal) ⟨2, ![n0, n1]⟩ e) :: L) y
      = p (ix2 i j) := by
  have : y = (Rect.unit (s := ⟨2, ![n0, n1]⟩) ![q0, q1] ![p0, p1] inb).emb (ix2 i j) := by
    funext a
    fin_cases a
    · apply Fin.ext; simpa [Rect.emb, Rect.unit, ix2] using hi
    · apply Fin.ext; simpa [Rect.emb, Rect.unit, ix2] using hj
  rw [this]
  exact View.canon_cons_emb (Val := Elt Ideal) _ _ _ _

/-- The same for a load of a rectangle of the buffer, the last store being at the origin. -/
theorem readCov_head2 {n0 n1 p0 p1 b0 b1 : ℕ} {e : EltTy} {κ : Kind} {sp : Space} (v : View sig κ sp ⟨2, ![n0, n1]⟩ e)
    (L : List (View.Piece (Elt Ideal) ⟨2, ![n0, n1]⟩ e)) (inb) (p : Vec Ideal ⟨2, ![p0, p1]⟩ e)
    (o0 o1 : ℕ) (inb') (i : Fin b0) (j : Fin b1) (hi : o0 + i.val < p0) (hj : o1 + j.val < p1) :
    (v.readCov ((⟨Rect.unit (s := ⟨2, ![n0, n1]⟩) ![0, 0] ![p0, p1] inb, p⟩ : View.Piece (Elt Ideal) ⟨2, ![n0, n1]⟩ e) :: L)
      (Rect.unit (s := ⟨2, ![n0, n1]⟩) ![o0, o1] ![b0, b1] inb').toLoadRect : Vec Ideal ⟨2, ![b0, b1]⟩ e) (ix2 i j)
      = p (ix2 ⟨o0 + i, hi⟩ ⟨o1 + j, hj⟩) := by
  rw [View.readCov_eq_canon']
  exact canon_head2 L 0 0 inb p _ ⟨o0 + i, hi⟩ ⟨o1 + j, hj⟩
    (by simp [Rect.emb, Rect.unit, ix2]; rfl)
    (by simp [Rect.emb, Rect.unit, ix2]; rfl)

/-- One more store that writes a block of `G`, checked index by index. -/
theorem pieces2 {n0 n1 b0 b1 : ℕ} {e : EltTy} (G : Vec Ideal ⟨2, ![n0, n1]⟩ e)
    (L : List (View.Piece (Elt Ideal) ⟨2, ![n0, n1]⟩ e)) (o0 o1 : ℕ) (inb) (w : Vec Ideal ⟨2, ![b0, b1]⟩ e)
    (h0 : o0 + b0 ≤ n0) (h1 : o1 + b1 ≤ n1)
    (hw : ∀ (i : Fin b0) (j : Fin b1), w (ix2 i j) = G (ix2 ⟨o0 + i, by omega⟩ ⟨o1 + j, by omega⟩))
    (hL : View.PiecesOf (Val := Elt Ideal) G L) :
    View.PiecesOf (Val := Elt Ideal) G
      ((⟨Rect.unit (s := ⟨2, ![n0, n1]⟩) ![o0, o1] ![b0, b1] inb, w⟩ : View.Piece (Elt Ideal) ⟨2, ![n0, n1]⟩ e) :: L) := by
  refine ⟨fun (x : Shape.Idx ⟨2, ![b0, b1]⟩) => ?_, hL⟩
  have hx : x = ix2 (x 0) (x 1) := by funext a; fin_cases a <;> rfl
  refine (congrArg w hx).trans ((hw (x 0) (x 1)).trans (congrArg G ?_))
  funext a
  fin_cases a <;> (apply Fin.ext; simp [Rect.emb, Rect.unit, ix2])

/-- A load of a written buffer reads the buffer's contents at the rectangle's offset. -/
theorem readCov2 {n0 n1 b0 b1 : ℕ} {e : EltTy} {κ : Kind} {sp : Space} (v : View sig κ sp ⟨2, ![n0, n1]⟩ e)
    {L : List (View.Piece (Elt Ideal) ⟨2, ![n0, n1]⟩ e)} {G : Vec Ideal ⟨2, ![n0, n1]⟩ e}
    (hL : View.canon (Val := Elt Ideal) L = G) (o0 o1 : ℕ) (inb) (i : Fin b0) (j : Fin b1)
    (hi : o0 + i.val < n0) (hj : o1 + j.val < n1) :
    (v.readCov L (Rect.unit (s := ⟨2, ![n0, n1]⟩) ![o0, o1] ![b0, b1] inb).toLoadRect : Vec Ideal ⟨2, ![b0, b1]⟩ e) (ix2 i j)
      = G (ix2 ⟨o0 + i, hi⟩ ⟨o1 + j, hj⟩) := by
  rw [View.readCov_eq_canon', hL]
  show G _ = G _
  congr 1
  funext a
  fin_cases a <;> (apply Fin.ext; simp [Rect.emb, Rect.unit, ix2])

/-- A load, at an index the last store covers, of a buffer that was read in and then written. -/
theorem readWrites_head2 {n0 n1 p0 p1 b0 b1 : ℕ} {e : EltTy} {κ : Kind} {sp : Space} (v : View sig κ sp ⟨2, ![n0, n1]⟩ e)
    (f : v.ty.Contents (Elt Ideal)) (L : List (View.Piece (Elt Ideal) ⟨2, ![n0, n1]⟩ e)) (inb)
    (p : Vec Ideal ⟨2, ![p0, p1]⟩ e)
    (o0 o1 : ℕ) (inb') (i : Fin b0) (j : Fin b1) (hi : o0 + i.val < p0) (hj : o1 + j.val < p1) :
    (View.readAt (Elt Ideal) v (Rect.unit (s := ⟨2, ![n0, n1]⟩) ![o0, o1] ![b0, b1] inb').toLoadRect
      (v.writes (Elt Ideal) f
        ((⟨Rect.unit (s := ⟨2, ![n0, n1]⟩) ![0, 0] ![p0, p1] inb, p⟩ : View.Piece (Elt Ideal) ⟨2, ![n0, n1]⟩ e) :: L)) :
      Vec Ideal ⟨2, ![b0, b1]⟩ e) (ix2 i j)
      = p (ix2 ⟨o0 + i, hi⟩ ⟨o1 + j, hj⟩) := by
  rw [View.readAt_eq_ld]
  have hy : (Rect.unit (s := ⟨2, ![n0, n1]⟩) ![o0, o1] ![b0, b1] inb').emb (ix2 i j)
      = (Rect.unit (s := ⟨2, ![n0, n1]⟩) ![0, 0] ![p0, p1] inb).emb (ix2 ⟨o0 + i, hi⟩ ⟨o1 + j, hj⟩) := by
    funext a
    fin_cases a <;> (apply Fin.ext; simp [Rect.emb, Rect.unit, ix2])
  refine (congrArg (View.read (Elt Ideal) v _) hy).trans ?_
  exact View.read_writes_cons_emb _ _ _ _ _ _

/-- What the stores of blocks of `G` that cover the buffer leave in it. -/
theorem canon_of_pieces {s : Shape} {e : EltTy} {G : Vec Ideal s e} {L : List (View.Piece (Elt Ideal) s e)}
    (h : View.PiecesOf (Val := Elt Ideal) G L) (hc : ∀ y, ∃ p ∈ L, y ∈ p.1.set) :
    View.canon (Val := Elt Ideal) L = G :=
  funext fun y => View.canon_apply_of_pieces G L h.mem y (hc y)

variable (x0 : Vec Ideal S2048x2880 .fp8e4m3) (x1 : Vec Ideal S1x2048 .f32) (x2 : Vec Ideal S256x2880 .f32)
  (x3 : Vec Ideal S256x45 .f32) (x4 : Vec Ideal S256x2880 .f32) (x5 : Vec Ideal S1x1x256 .f32)
  (x6 : Vec Ideal S1x2880 .f32) (x7 : Vec Ideal S2048x256 .bf16)

/-- The block of dequantised weights. -/
def whG : Vec Ideal S256x2880 .bf16 := fun y => (krow x0 x1 x2 x3 x4 x5 x6 x7 (y 0)).wq (y 1)

/-- The block of coefficients of the gradient of `s2`. -/
def aG : Vec Ideal S256x2880 .f32 := fun y => (krow x0 x1 x2 x3 x4 x5 x6 x7 (y 0)).a (y 1)

/-- The block of coefficients of the gradient of `s1`. -/
def bG : Vec Ideal S256x2880 .f32 := fun y => (krow x0 x1 x2 x3 x4 x5 x6 x7 (y 0)).b (y 1)

/-- The block of stored codes. -/
def codeG : Vec Ideal S256x2880 .i8 := fun y => (krow x0 x1 x2 x3 x4 x5 x6 x7 (y 0)).codeWord (y 1)

/-- The block of gradients that reach the product. -/
def etG : Vec Ideal S256x2048 .bf16 := fun y => (krow x0 x1 x2 x3 x4 x5 x6 x7 (y 0)).e (y 1)

/-- The block of gradients of `s2`. -/
def ds2G : Vec Ideal S256x2880 .f32 := fun y => (krow x0 x1 x2 x3 x4 x5 x6 x7 (y 0)).ds2 (y 1)

/-- The coefficient of the gradient of `s2` with the scale multiplied in under the mask. -/
theorem aG_at (i : Fin 256) (k : Fin 2880) :
    0 - Scalar.select (keep ((krow x0 x1 x2 x3 x4 x5 x6 x7 i).z k))
        ((krow x0 x1 x2 x3 x4 x5 x6 x7 i).s1f k * (krow x0 x1 x2 x3 x4 x5 x6 x7 i).z k) 0
      = aG x0 x1 x2 x3 x4 x5 x6 x7 (ix2 i k) := by
  show _ = 0 - (krow x0 x1 x2 x3 x4 x5 x6 x7 i).s1f k * masked ((krow x0 x1 x2 x3 x4 x5 x6 x7 i).z k)
  unfold masked Scalar.select
  split <;> simp

end Cert.KBlock

end

end
-- ==== Proof.KTile.lean ====
/- The tiles of the forward and the gradient phase at an index, over any values that agree with the rows of the block. -/
module

public import proofs.«01_k».proof.Proof.KBlock

@[expose] public section

set_option maxRecDepth 16384

noncomputable section

namespace Cert.KBlock

open Idealize.ShloMosaic Idealize.ShloMosaic.TcCoe Cert.KernelIdeal Cert.KernelIdeal.Gen Cert.Spec

variable {R : Fin 256 → Row}

/-- The residuals of a block of tokens. -/
theorem res_tile {wh : FVec Ideal S256x2880 .bf16} {xb : FVec Ideal S256x2880 .fp8e4m3} {xsb : FVec Ideal S1x256 .f32}
    {ytb : FVec Ideal S256x256 .bf16} (o : ℕ) (ho : o + 256 ≤ 2048) {h0 h1 b1 h2 t2 e2}
    (hwh : ∀ r k, wh (ix2 r k) = (R r).wq k) (hx : ∀ r t k, xb (ix2 t k) = (R r).x ⟨o + t.val, by omega⟩ k)
    (hxs : ∀ r t, xsb (ix2 0 t) = (R r).xs ⟨o + t.val, by omega⟩)
    (hyt : ∀ r t, ytb (ix2 t r) = (R r).yt ⟨o + t.val, by omega⟩) (r t : Fin 256) :
    (subf (mulf (matmul dot_S256x2880_S256x2880_S256x256_1_1_0_0_n_n none wh (shapeCast S256x2880 xb h0)
            (constant S256x256 .f32 0#32))
          (broadcastTo S256x256 (shapeCast S1x256 xsb h1) b1))
        (extf .f32 (transpose S256x256 [1, 0] (shapeCast S256x256 ytb h2) t2) e2) : FVec Ideal S256x256 .f32) (ix2 r t)
      = (R r).res ⟨o + t.val, by omega⟩ := by
  pointwise
  simp only [hwh, hx r, hxs r, hyt r]
  unfold Row.res
  simp only [mul_comm]

/-- The gradient that reaches the product, for a block of tokens. -/
theorem e_tile {rs : FVec Ideal S256x256 .f32} {xc : FVec Ideal S1x256 .f32} (o : ℕ) (ho : o + 256 ≤ 2048) {b t0 h0}
    (hrs : ∀ r t, rs (ix2 r t) = (R r).res ⟨o + t.val, by omega⟩)
    (hxc : ∀ r t, xc (ix2 0 t) = (R r).xs ⟨o + t.val, by omega⟩ * Ideal.ofBits .f32 0x34088889#32) (r t : Fin 256) :
    (shapeCast S256x256 (truncf .bf16 (mulf rs (broadcastTo S256x256 xc b)) t0) h0 : FVec Ideal S256x256 .bf16) (ix2 r t)
      = (R r).e ⟨o + t.val, by omega⟩ := by
  pointwise
  rw [hrs, hxc r]
  rfl

/-- The squared residuals of a block of tokens, added over the 32 groups of eight rows. -/
theorem loss_tile {rs : FVec Ideal S256x256 .f32} {acc : FVec Ideal S8x256 .f32} (o : ℕ) (ho : o + 256 ≤ 2048)
    {h0 h1 d1 d2 d3}
    (hrs : ∀ r t, rs (ix2 r t) = (R r).res ⟨o + t.val, by omega⟩) (s : Fin 8) (t : Fin 256) :
    (shapeCast S8x256 (addf acc (multiReduction .add [0] S8x256 (shapeCast S32x8x256 (mulf rs rs) h0) 0#32 d1 d2 d3)) h1 :
      FVec Ideal S8x256 .f32) (ix2 s t)
      = acc (ix2 s t) + ∑ q : Fin 32, (R ⟨q.val * 8 + s.val, by omega⟩).sq ⟨o + t.val, by omega⟩ := by
  pointwise
  simp only [hrs]
  rfl

/-- The gradients of `s2` in a block of 256 columns. -/
theorem ds2_tile {a : FVec Ideal S256x256 .f32} {e : FVec Ideal S256x2048 .bf16} {xb : FVec Ideal S2048x256 .fp8e4m3}
    (o : ℕ) (ho : o + 256 ≤ 2880) {h0}
    (ha : ∀ r k, a (ix2 r k) = (R r).a ⟨o + k.val, by omega⟩) (he : ∀ r t, e (ix2 r t) = (R r).e t)
    (hx : ∀ r t k, xb (ix2 t k) = (R r).x t ⟨o + k.val, by omega⟩) (r k : Fin 256) :
    (mulf a (matmul dot_S256x2048_S2048x256_S256x256_1_0_0_1_n_n none e (shapeCast S2048x256 xb h0)
      (constant S256x256 .f32 0#32)) : FVec Ideal S256x256 .f32) (ix2 r k)
      = (R r).ds2 ⟨o + k.val, by omega⟩ := by
  pointwise
  simp only [ha, he, hx r]
  rfl

/-- The gradients of `s2` in the last block, of 64 columns. -/
theorem ds2_tile' {a : FVec Ideal S256x64 .f32} {e : FVec Ideal S256x2048 .bf16} {xb : FVec Ideal S2048x64 .fp8e4m3}
    (o : ℕ) (ho : o + 64 ≤ 2880) {h0}
    (ha : ∀ r k, a (ix2 r k) = (R r).a ⟨o + k.val, by omega⟩) (he : ∀ r t, e (ix2 r t) = (R r).e t)
    (hx : ∀ r t k, xb (ix2 t k) = (R r).x t ⟨o + k.val, by omega⟩) (r : Fin 256) (k : Fin 64) :
    (mulf a (matmul dot_S256x2048_S2048x64_S256x64_1_0_0_1_n_n none e (shapeCast S2048x64 xb h0)
      (constant S256x64 .f32 0#32)) : FVec Ideal S256x64 .f32) (ix2 r k)
      = (R r).ds2 ⟨o + k.val, by omega⟩ := by
  pointwise
  simp only [ha, he, hx r]
  rfl

/-- The gradients of `s2` of 256 columns, added over the 32 groups of eight rows. -/
theorem dc_tile {d : FVec Ideal S256x256 .f32} {acc : FVec Ideal S8x256 .f32} (o : ℕ) (ho : o + 256 ≤ 2880)
    {h0 h1 d1 d2 d3}
    (hd : ∀ r k, d (ix2 r k) = (R r).ds2 ⟨o + k.val, by omega⟩) (s : Fin 8) (k : Fin 256) :
    (shapeCast S8x256 (addf acc (multiReduction .add [0] S8x256 (shapeCast S32x8x256 d h0) 0#32 d1 d2 d3)) h1 :
      FVec Ideal S8x256 .f32) (ix2 s k)
      = acc (ix2 s k) + ∑ q : Fin 32, (R ⟨q.val * 8 + s.val, by omega⟩).ds2 ⟨o + k.val, by omega⟩ := by
  pointwise
  simp only [hd]

/-- The gradients of `s2` of the last 64 columns, added over the 32 groups of eight rows. -/
theorem dc_tile' {d : FVec Ideal S256x64 .f32} {acc : FVec Ideal S8x64 .f32} (o : ℕ) (ho : o + 64 ≤ 2880)
    {h0 h1 d1 d2 d3}
    (hd : ∀ r k, d (ix2 r k) = (R r).ds2 ⟨o + k.val, by omega⟩) (s : Fin 8) (k : Fin 64) :
    (shapeCast S8x64 (addf acc (multiReduction .add [0] S8x64 (shapeCast S32x8x64 d h0) 0#32 d1 d2 d3)) h1 :
      FVec Ideal S8x64 .f32) (ix2 s k)
      = acc (ix2 s k) + ∑ q : Fin 32, (R ⟨q.val * 8 + s.val, by omega⟩).ds2 ⟨o + k.val, by omega⟩ := by
  pointwise
  simp only [hd]

/-- The gradient of `s1` of one group, from a block of 256 columns: lanes `o1 + o2` to `o1 + o2 + 63` of the block. -/
theorem ds1_tile {b : FVec Ideal S256x256 .f32} {e : FVec Ideal S256x2048 .bf16} {xb : FVec Ideal S2048x256 .fp8e4m3}
    (o o1 o2 : ℕ) (g : Fin 45) (hg : g.val * 64 = o + o1 + o2) (ho : o + 256 ≤ 2880) (h1 : o1 + 128 ≤ 256) (h2 : o2 + 64 ≤ 128)
    {h0 s1 t1 s2 c1 c2 d1 d2 d3}
    (hb : ∀ r k, b (ix2 r k) = (R r).b ⟨o + k.val, by omega⟩) (he : ∀ r t, e (ix2 r t) = (R r).e t)
    (hx : ∀ r t k, xb (ix2 t k) = (R r).x t ⟨o + k.val, by omega⟩) (z : Fin 1) (r : Fin 256) :
    (shapeCast S1x256 (shapeCast S1x256 (multiReduction .add [0] S256 (extractStridedSlice S64x256 ![o2, 0]
      (transpose S128x256 [1, 0] (extractStridedSlice S256x128 ![0, o1]
        (mulf b (matmul dot_S256x2048_S2048x256_S256x256_1_0_0_1_n_n none e (shapeCast S2048x256 xb h0)
      (constant S256x256 .f32 0#32))) s1) t1) s2) 0#32 d1 d2 d3) c1) c2 : FVec Ideal S1x256 .f32) (ix2 z r)
      = (R r).ds1 g := by
  pointwise
  simp only [hb, he, hx r]
  refine Finset.sum_congr rfl fun l _ => ?_
  have hl : (⟨o + (o1 + (o2 + l.val)), by omega⟩ : Fin 2880) = ⟨g.val * 64 + l.val, by omega⟩ := Fin.ext (by simp only; omega)
  simp only [hl]
  rfl

/-- The gradient of `s1` of the last group. -/
theorem ds1_tile' {b : FVec Ideal S256x64 .f32} {e : FVec Ideal S256x2048 .bf16} {xb : FVec Ideal S2048x64 .fp8e4m3}
    (o : ℕ) (g : Fin 45) (hg : g.val * 64 = o) (ho : o + 64 ≤ 2880) {h0 t1 c1 c2 d1 d2 d3}
    (hb : ∀ r k, b (ix2 r k) = (R r).b ⟨o + k.val, by omega⟩) (he : ∀ r t, e (ix2 r t) = (R r).e t)
    (hx : ∀ r t k, xb (ix2 t k) = (R r).x t ⟨o + k.val, by omega⟩) (z : Fin 1) (r : Fin 256) :
    (shapeCast S1x256 (shapeCast S1x256 (multiReduction .add [0] S256 (transpose S64x256 [1, 0]
        (mulf b (matmul dot_S256x2048_S2048x64_S256x64_1_0_0_1_n_n none e (shapeCast S2048x64 xb h0)
      (constant S256x64 .f32 0#32))) t1) 0#32 d1 d2 d3) c1) c2 : FVec Ideal S1x256 .f32) (ix2 z r)
      = (R r).ds1 g := by
  pointwise
  simp only [hb, he, hx r]
  refine Finset.sum_congr rfl fun l _ => ?_
  have hl : (⟨o + l.val, by omega⟩ : Fin 2880) = ⟨g.val * 64 + l.val, by omega⟩ := Fin.ext (by simp only; omega)
  simp only [hl]
  rfl

/-! The same tiles as the kernel spells them, with the loads they read. -/

section At

variable {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}
  {arg1 : Memref sig .tc .vmem S2048x2880 .fp8e4m3} {harg1 : arg1.IsWhole}
  {arg2 : Memref sig .tc .vmem S1x2048 .f32} {harg2 : arg2.IsWhole}
  {arg8 : Memref sig .tc .vmem S2048x256 .bf16} {harg8 : arg8.IsWhole}

/-- A load of a rectangle of a whole input buffer, the index given by its coordinates. -/
theorem read2e {n0 n1 b0 b1 : ℕ} {e : EltTy} (m : Memref sig .tc .vmem ⟨2, ![n0, n1]⟩ e) (h : m.IsWhole)
    (x : Vec Ideal ⟨2, ![n0, n1]⟩ e) (o0 o1 : ℕ) (inb) (i : Fin b0) (j : Fin b1) (i' : Fin n0) (j' : Fin n1)
    (hi : o0 + i.val = i'.val) (hj : o1 + j.val = j'.val) :
    (View.readAt (Elt Ideal) m.view (Rect.unit (s := ⟨2, ![n0, n1]⟩) ![o0, o1] ![b0, b1] inb).toLoadRect (h.unread x) :
      Vec Ideal ⟨2, ![b0, b1]⟩ e) (ix2 i j) = x (ix2 i' j') := by
  rw [read2 _ _ _ _ _ _ _ _ (hi ▸ i'.2) (hj ▸ j'.2)]
  simp only [hi, hj]

/-- A load of a rectangle of a written buffer, the index given by its coordinates. -/
theorem readCov2e {n0 n1 b0 b1 : ℕ} {e : EltTy} {κ : Kind} {sp : Space} (v : View sig κ sp ⟨2, ![n0, n1]⟩ e)
    {L : List (View.Piece (Elt Ideal) ⟨2, ![n0, n1]⟩ e)} {G : Vec Ideal ⟨2, ![n0, n1]⟩ e}
    (hL : View.canon (Val := Elt Ideal) L = G) (o0 o1 : ℕ) (inb) (i : Fin b0) (j : Fin b1) (i' : Fin n0) (j' : Fin n1)
    (hi : o0 + i.val = i'.val) (hj : o1 + j.val = j'.val) :
    (v.readCov L (Rect.unit (s := ⟨2, ![n0, n1]⟩) ![o0, o1] ![b0, b1] inb).toLoadRect : Vec Ideal ⟨2, ![b0, b1]⟩ e) (ix2 i j)
      = G (ix2 i' j') := by
  rw [readCov2 _ hL _ _ _ _ _ (hi ▸ i'.2) (hj ▸ j'.2)]
  simp only [hi, hj]

/-- A load after stores, at its plain shape. -/
abbrev ldW {n0 n1 b0 b1 : ℕ} {e : EltTy} {κ : Kind} {sp : Space} (v : View sig κ sp ⟨2, ![n0, n1]⟩ e)
    (L : List (View.Piece (Elt Ideal) ⟨2, ![n0, n1]⟩ e)) (o0 o1 : ℕ)
    (inb : ∀ a, (![o0, o1] : Fin 2 → ℕ) a + (![b0, b1] : Fin 2 → ℕ) a ≤ (⟨2, ![n0, n1]⟩ : Shape).size a) :
    Vec Ideal ⟨2, ![b0, b1]⟩ e :=
  v.readCov L (Rect.unit (s := ⟨2, ![n0, n1]⟩) ![o0, o1] ![b0, b1] inb).toLoadRect

/-- A load of an input, at its plain shape. -/
abbrev ldI {n0 n1 b0 b1 : ℕ} {e : EltTy} (m : Memref sig .tc .vmem ⟨2, ![n0, n1]⟩ e) (h : m.IsWhole)
    (x : Vec Ideal ⟨2, ![n0, n1]⟩ e) (o0 o1 : ℕ)
    (inb : ∀ a, (![o0, o1] : Fin 2 → ℕ) a + (![b0, b1] : Fin 2 → ℕ) a ≤ (⟨2, ![n0, n1]⟩ : Shape).size a) :
    Vec Ideal ⟨2, ![b0, b1]⟩ e :=
  View.readAt (Elt Ideal) m.view (Rect.unit (s := ⟨2, ![n0, n1]⟩) ![o0, o1] ![b0, b1] inb).toLoadRect (h.unread x)

/-- The residuals, read from the block of weights the kernel keeps. -/
theorem res_at {v : View sig .tc .vmem S256x2880 .bf16} {L : List (View.Piece (Elt Ideal) S256x2880 .bf16)}
    (hW : View.canon (Val := Elt Ideal) L = whG x0 x1 x2 x3 x4 x5 x6 x7) (o : ℕ) (ho : o + 256 ≤ 2048)
    {i0 i1 i2 i3 h0 h1 b1 h2 t2 e2} (r t : Fin 256) :
    (subf (φ := .f32) (mulf (φ := .f32) (matmul (F := Ideal) (φ₁ := .bf16) (φ₂ := .fp8e4m3) dot_S256x2880_S256x2880_S256x256_1_1_0_0_n_n none
            (ldW (b0 := 256) (b1 := 2880) v L 0 0 i0 : FVec Ideal S256x2880 .bf16)
            (shapeCast (α := Elt Ideal .fp8e4m3) S256x2880 (ldI (b0 := 256) (b1 := 2880) arg1 harg1 x0 o 0 i1 :
                FVec Ideal S256x2880 .fp8e4m3) h0)
            (constant S256x256 .f32 0#32))
          (broadcastTo S256x256 (shapeCast (α := Elt Ideal .f32) S1x256 (ldI (b0 := 1) (b1 := 256) arg2 harg2 x1 0 o i2 : FVec Ideal S1x256 .f32) h1) b1))
        (extf (F := Ideal) (φ := .bf16) .f32 (transpose S256x256 [1, 0] (shapeCast (α := Elt Ideal .bf16) S256x256 (ldI (b0 := 256) (b1 := 256) arg8 harg8 x7 o 0 i3 :
              FVec Ideal S256x256 .bf16) h2) t2) e2) :
        FVec Ideal S256x256 .f32) (ix2 r t)
      = (krow x0 x1 x2 x3 x4 x5 x6 x7 r).res ⟨o + t.val, by omega⟩ :=
  res_tile (R := krow x0 x1 x2 x3 x4 x5 x6 x7) o ho
    (fun r k => readCov2e _ hW _ _ _ _ _ r k (by simp) (by simp))
    (fun _ t k => read2e _ _ _ _ _ _ _ _ ⟨o + t.val, by omega⟩ k (by simp) (by simp))
    (fun _ t => read2e _ _ _ _ _ _ _ _ 0 ⟨o + t.val, by omega⟩ (by simp) (by simp))
    (fun r t => read2e _ _ _ _ _ _ _ _ ⟨o + t.val, by omega⟩ r (by simp) (by simp)) r t

/-- The gradients of `s2` of 256 columns, read from the blocks the kernel keeps. -/
theorem ds2_at {v : View sig .tc .vmem S256x2880 .f32} {L : List (View.Piece (Elt Ideal) S256x2880 .f32)}
    {v' : View sig .tc .vmem S256x2048 .bf16} {L' : List (View.Piece (Elt Ideal) S256x2048 .bf16)}
    (hA : View.canon (Val := Elt Ideal) L = aG x0 x1 x2 x3 x4 x5 x6 x7)
    (hE : View.canon (Val := Elt Ideal) L' = etG x0 x1 x2 x3 x4 x5 x6 x7) (o : ℕ) (ho : o + 256 ≤ 2880)
    {i0 i1 i2 h0} (r k : Fin 256) :
    (mulf (φ := .f32) (ldW (b0 := 256) (b1 := 256) v L 0 o i0 : FVec Ideal S256x256 .f32)
      (matmul (F := Ideal) (φ₁ := .bf16) (φ₂ := .fp8e4m3) dot_S256x2048_S2048x256_S256x256_1_0_0_1_n_n none
        (ldW (b0 := 256) (b1 := 2048) v' L' 0 0 i1 : FVec Ideal S256x2048 .bf16)
        (shapeCast (α := Elt Ideal .fp8e4m3) S2048x256 (ldI (b0 := 2048) (b1 := 256) arg1 harg1 x0 0 o i2 :
            FVec Ideal S2048x256 .fp8e4m3) h0)
        (constant S256x256 .f32 0#32)) : FVec Ideal S256x256 .f32) (ix2 r k)
      = (krow x0 x1 x2 x3 x4 x5 x6 x7 r).ds2 ⟨o + k.val, by omega⟩ :=
  ds2_tile (R := krow x0 x1 x2 x3 x4 x5 x6 x7) o ho
    (fun r k => readCov2e _ hA _ _ _ _ _ r ⟨o + k.val, by omega⟩ (by simp) (by simp))
    (fun r t => readCov2e _ hE _ _ _ _ _ r t (by simp) (by simp))
    (fun _ t k => read2e _ _ _ _ _ _ _ _ t ⟨o + k.val, by omega⟩ (by simp) (by simp)) r k

/-- The gradients of `s2` of the last 64 columns, read from the blocks the kernel keeps. -/
theorem ds2_at' {v : View sig .tc .vmem S256x2880 .f32} {L : List (View.Piece (Elt Ideal) S256x2880 .f32)}
    {v' : View sig .tc .vmem S256x2048 .bf16} {L' : List (View.Piece (Elt Ideal) S256x2048 .bf16)}
    (hA : View.canon (Val := Elt Ideal) L = aG x0 x1 x2 x3 x4 x5 x6 x7)
    (hE : View.canon (Val := Elt Ideal) L' = etG x0 x1 x2 x3 x4 x5 x6 x7) (o : ℕ) (ho : o + 64 ≤ 2880)
    {i0 i1 i2 h0} (r : Fin 256) (k : Fin 64) :
    (mulf (φ := .f32) (ldW (b0 := 256) (b1 := 64) v L 0 o i0 : FVec Ideal S256x64 .f32)
      (matmul (F := Ideal) (φ₁ := .bf16) (φ₂ := .fp8e4m3) dot_S256x2048_S2048x64_S256x64_1_0_0_1_n_n none
        (ldW (b0 := 256) (b1 := 2048) v' L' 0 0 i1 : FVec Ideal S256x2048 .bf16)
        (shapeCast (α := Elt Ideal .fp8e4m3) S2048x64 (ldI (b0 := 2048) (b1 := 64) arg1 harg1 x0 0 o i2 :
            FVec Ideal S2048x64 .fp8e4m3) h0)
        (constant S256x64 .f32 0#32)) : FVec Ideal S256x64 .f32) (ix2 r k)
      = (krow x0 x1 x2 x3 x4 x5 x6 x7 r).ds2 ⟨o + k.val, by omega⟩ :=
  ds2_tile' (R := krow x0 x1 x2 x3 x4 x5 x6 x7) o ho
    (fun r k => readCov2e _ hA _ _ _ _ _ r ⟨o + k.val, by omega⟩ (by simp) (by simp))
    (fun r t => readCov2e _ hE _ _ _ _ _ r t (by simp) (by simp))
    (fun _ t k => read2e _ _ _ _ _ _ _ _ t ⟨o + k.val, by omega⟩ (by simp) (by simp)) r k

/-- The gradient of `s1` of one group, read from the blocks the kernel keeps. -/
theorem ds1_at {v : View sig .tc .vmem S256x2880 .f32} {L : List (View.Piece (Elt Ideal) S256x2880 .f32)}
    {v' : View sig .tc .vmem S256x2048 .bf16} {L' : List (View.Piece (Elt Ideal) S256x2048 .bf16)}
    (hB : View.canon (Val := Elt Ideal) L = bG x0 x1 x2 x3 x4 x5 x6 x7)
    (hE : View.canon (Val := Elt Ideal) L' = etG x0 x1 x2 x3 x4 x5 x6 x7) (o o1 o2 : ℕ) (g : Fin 45)
    (hg : g.val * 64 = o + o1 + o2) (ho : o + 256 ≤ 2880) (h1 : o1 + 128 ≤ 256) (h2 : o2 + 64 ≤ 128)
    {i0 i1 i2 h0 s1 t1 s2 c1 c2 d1 d2 d3} (z : Fin 1) (r : Fin 256) :
    (shapeCast S1x256 (shapeCast S1x256 (multiReduction .add [0] S256 (extractStridedSlice S64x256 ![o2, 0]
      (transpose S128x256 [1, 0] (extractStridedSlice S256x128 ![0, o1]
    (mulf (φ := .f32) (ldW (b0 := 256) (b1 := 256) v L 0 o i0 : FVec Ideal S256x256 .f32)
      (matmul (F := Ideal) (φ₁ := .bf16) (φ₂ := .fp8e4m3) dot_S256x2048_S2048x256_S256x256_1_0_0_1_n_n none
        (ldW (b0 := 256) (b1 := 2048) v' L' 0 0 i1 : FVec Ideal S256x2048 .bf16)
        (shapeCast (α := Elt Ideal .fp8e4m3) S2048x256 (ldI (b0 := 2048) (b1 := 256) arg1 harg1 x0 0 o i2 :
            FVec Ideal S2048x256 .fp8e4m3) h0)
        (constant S256x256 .f32 0#32))) s1) t1) s2) 0#32 d1 d2 d3) c1) c2 : FVec Ideal S1x256 .f32) (ix2 z r)
      = (krow x0 x1 x2 x3 x4 x5 x6 x7 r).ds1 g :=
  ds1_tile (R := krow x0 x1 x2 x3 x4 x5 x6 x7) o o1 o2 g hg ho h1 h2
    (fun r k => readCov2e _ hB _ _ _ _ _ r ⟨o + k.val, by omega⟩ (by simp) (by simp))
    (fun r t => readCov2e _ hE _ _ _ _ _ r t (by simp) (by simp))
    (fun _ t k => read2e _ _ _ _ _ _ _ _ t ⟨o + k.val, by omega⟩ (by simp) (by simp)) z r

/-- The gradient of `s1` of the last group, read from the blocks the kernel keeps. -/
theorem ds1_at' {v : View sig .tc .vmem S256x2880 .f32} {L : List (View.Piece (Elt Ideal) S256x2880 .f32)}
    {v' : View sig .tc .vmem S256x2048 .bf16} {L' : List (View.Piece (Elt Ideal) S256x2048 .bf16)}
    (hB : View.canon (Val := Elt Ideal) L = bG x0 x1 x2 x3 x4 x5 x6 x7)
    (hE : View.canon (Val := Elt Ideal) L' = etG x0 x1 x2 x3 x4 x5 x6 x7) (o : ℕ) (g : Fin 45)
    (hg : g.val * 64 = o) (ho : o + 64 ≤ 2880)
    {i0 i1 i2 h0 t1 c1 c2 d1 d2 d3} (z : Fin 1) (r : Fin 256) :
    (shapeCast S1x256 (shapeCast S1x256 (multiReduction .add [0] S256 (transpose S64x256 [1, 0]
    (mulf (φ := .f32) (ldW (b0 := 256) (b1 := 64) v L 0 o i0 : FVec Ideal S256x64 .f32)
      (matmul (F := Ideal) (φ₁ := .bf16) (φ₂ := .fp8e4m3) dot_S256x2048_S2048x64_S256x64_1_0_0_1_n_n none
        (ldW (b0 := 256) (b1 := 2048) v' L' 0 0 i1 : FVec Ideal S256x2048 .bf16)
        (shapeCast (α := Elt Ideal .fp8e4m3) S2048x64 (ldI (b0 := 2048) (b1 := 64) arg1 harg1 x0 0 o i2 :
            FVec Ideal S2048x64 .fp8e4m3) h0)
        (constant S256x64 .f32 0#32))) t1) 0#32 d1 d2 d3) c1) c2 : FVec Ideal S1x256 .f32) (ix2 z r)
      = (krow x0 x1 x2 x3 x4 x5 x6 x7 r).ds1 g :=
  ds1_tile' (R := krow x0 x1 x2 x3 x4 x5 x6 x7) o g hg ho
    (fun r k => readCov2e _ hB _ _ _ _ _ r ⟨o + k.val, by omega⟩ (by simp) (by simp))
    (fun r t => readCov2e _ hE _ _ _ _ _ r t (by simp) (by simp))
    (fun _ t k => read2e _ _ _ _ _ _ _ _ t ⟨o + k.val, by omega⟩ (by simp) (by simp)) z r

end At

end Cert.KBlock

end
-- ==== Proof.KStep.lean ====
/- One more store of the accumulating blocks: the losses and the gradients of `c` by blocks of columns, the gradients
   of `r` by folding blocks of columns onto 128 lanes, and the gradients of `s1` by rows. -/
module

public import proofs.«01_k».proof.Proof.KTile
public import Idealize.ShloMosaic.Lib.WritesUnit

@[expose] public section

set_option maxRecDepth 16384

noncomputable section

namespace Cert.KBlock

open Idealize.ShloMosaic Idealize.ShloMosaic.TcCoe Cert.KernelIdeal Cert.KernelIdeal.Gen Cert.Spec

/-! ### Stores by blocks of columns -/

/-- One more store that writes columns of `G`, all rows at once. -/
theorem pieces_cols {n0 n1 b1 : ℕ} {e : EltTy} (G : Vec Ideal ⟨2, ![n0, n1]⟩ e)
    (L : List (View.Piece (Elt Ideal) ⟨2, ![n0, n1]⟩ e)) (o1 : ℕ) (inb) (w : Vec Ideal ⟨2, ![n0, b1]⟩ e)
    (h1 : o1 + b1 ≤ n1)
    (hw : ∀ (i : Fin n0) (j : Fin b1), w (ix2 i j) = G (ix2 i ⟨o1 + j, by omega⟩))
    (hL : View.PiecesOf (Val := Elt Ideal) G L) :
    View.PiecesOf (Val := Elt Ideal) G
      ((⟨Rect.unit (s := ⟨2, ![n0, n1]⟩) ![0, o1] ![n0, b1] inb, w⟩ : View.Piece (Elt Ideal) ⟨2, ![n0, n1]⟩ e) :: L) :=
  pieces2 G L 0 o1 inb w (by omega) h1 (fun i j => (hw i j).trans (by congr 2; exact Fin.ext (by simp))) hL

/-- Columns below `o` hold `G` and the others still hold `A`: after one more store of columns from `o` on, the bound
    moves to its end. -/
theorem cols_step {n0 n1 b1 : ℕ} {e : EltTy} {G A : Vec Ideal ⟨2, ![n0, n1]⟩ e}
    {L : List (View.Piece (Elt Ideal) ⟨2, ![n0, n1]⟩ e)} (o : ℕ) {inb} {w : Vec Ideal ⟨2, ![n0, b1]⟩ e}
    (ho : o + b1 ≤ n1)
    (hw : ∀ (i : Fin n0) (j : Fin b1), w (ix2 i j) = G (ix2 i ⟨o + j, by omega⟩))
    (hL : View.canon (Val := Elt Ideal) L = fun y => if (y 1).val < o then G y else A y) :
    View.canon (Val := Elt Ideal)
        ((⟨Rect.unit (s := ⟨2, ![n0, n1]⟩) ![0, o] ![n0, b1] inb, w⟩ : View.Piece (Elt Ideal) ⟨2, ![n0, n1]⟩ e) :: L)
      = fun y => if (y 1).val < o + b1 then G y else A y := by
  funext y
  by_cases h : o ≤ (y 1).val ∧ (y 1).val < o + b1
  · rw [if_pos h.2]
    refine (canon_head2 L 0 o inb w y (y 0) ⟨(y 1).val - o, by omega⟩ (by simp) (by simp; omega)).trans ((hw _ _).trans ?_)
    congr 1
    funext a
    fin_cases a
    · rfl
    · exact Fin.ext (by simp [ix2]; omega)
  · rw [View.canon_cons_of_not_mem]
    · rw [hL]
      dsimp only
      by_cases h' : (y 1).val < o
      · rw [if_pos h', if_pos (by omega)]
      · rw [if_neg h', if_neg (by omega)]
    · rw [Rect.mem_set_unit]
      intro hall
      have h1 := hall 1
      simp at h1
      omega

/-- The columns a store is about to write still hold `A`. -/
theorem cols_read {n0 n1 b1 : ℕ} {e : EltTy} {κ : Kind} {sp : Space} (v : View sig κ sp ⟨2, ![n0, n1]⟩ e)
    {G A : Vec Ideal ⟨2, ![n0, n1]⟩ e}
    {L : List (View.Piece (Elt Ideal) ⟨2, ![n0, n1]⟩ e)} (o : ℕ) (ho : o + b1 ≤ n1)
    (hL : View.canon (Val := Elt Ideal) L = fun y => if (y 1).val < o then G y else A y) (inb) (i : Fin n0) (j : Fin b1) :
    ldW (b0 := n0) (b1 := b1) v L 0 o inb (ix2 i j) = A (ix2 i ⟨o + j, by omega⟩) := by
  refine (readCov2e v hL 0 o inb i j i ⟨o + j, by omega⟩ (by simp) (by simp)).trans ?_
  exact if_neg (by show ¬ (o + j.val < o); omega)

/-- A block of columns read from an input holds the input's columns. -/
theorem cols_readI {n0 n1 b1 : ℕ} {e : EltTy} (m : Memref sig .tc .vmem ⟨2, ![n0, n1]⟩ e) (h : m.IsWhole)
    (x : Vec Ideal ⟨2, ![n0, n1]⟩ e) (o : ℕ) (ho : o + b1 ≤ n1) (inb) (i : Fin n0) (j : Fin b1) :
    ldI (b0 := n0) (b1 := b1) m h x 0 o inb (ix2 i j) = x (ix2 i ⟨o + j, by omega⟩) :=
  read2e m h x 0 o inb i j i ⟨o + j, by omega⟩ (by simp) (by simp)

/-! ### The losses and the gradients of `c` -/

/-- The input's token scales times the constant the kernel folds into them. -/
def xcG (x1 : Vec Ideal S1x2048 .f32) : Vec Ideal S1x2048 .f32 :=
  fun y => x1 (ix2 0 (y 1)) * Ideal.ofBits .f32 0x34088889#32

/-- The squared residuals of a block of rows added to `acc`, rows `s`, `s + 8`, … together. -/
def lossG (R : Fin 256 → Row) (acc : Vec Ideal S8x2048 .f32) : Vec Ideal S8x2048 .f32 :=
  fun y => acc y + ∑ q : Fin 32, (R ⟨q.val * 8 + (y 0).val, by have := (y 0).isLt; simp at this; omega⟩).sq (y 1)

/-- The gradients of `s2` of a block of rows added to `acc`, rows `s`, `s + 8`, … together. -/
def dcG (R : Fin 256 → Row) (acc : Vec Ideal S8x2880 .f32) : Vec Ideal S8x2880 .f32 :=
  fun y => acc y + ∑ q : Fin 32, (R ⟨q.val * 8 + (y 0).val, by have := (y 0).isLt; simp at this; omega⟩).ds2 (y 1)

/-- A block of tokens' squared residuals added to the columns of `A` it belongs to. -/
theorem loss_in {R : Fin 256 → Row} {A : Vec Ideal S8x2048 .f32} {rs : FVec Ideal S256x256 .f32}
    {acc : FVec Ideal S8x256 .f32} (o : ℕ) (ho : o + 256 ≤ 2048) {h0 h1 d1 d2 d3}
    (hacc : ∀ s t, acc (ix2 s t) = A (ix2 s ⟨o + t.val, by omega⟩))
    (hrs : ∀ r t, rs (ix2 r t) = (R r).res ⟨o + t.val, by omega⟩) (s : Fin 8) (t : Fin 256) :
    (shapeCast S8x256 (addf acc (multiReduction .add [0] S8x256 (shapeCast S32x8x256 (mulf rs rs) h0) 0#32 d1 d2 d3)) h1 :
      FVec Ideal S8x256 .f32) (ix2 s t) = lossG R A (ix2 s ⟨o + t.val, by omega⟩) :=
  (loss_tile o ho hrs s t).trans (congrArg (· + _) (hacc s t))

/-- 256 columns of gradients of `s2` added to the columns of `A` they belong to. -/
theorem dc_in {R : Fin 256 → Row} {A : Vec Ideal S8x2880 .f32} {d : FVec Ideal S256x256 .f32}
    {acc : FVec Ideal S8x256 .f32} (o : ℕ) (ho : o + 256 ≤ 2880) {h0 h1 d1 d2 d3}
    (hacc : ∀ s k, acc (ix2 s k) = A (ix2 s ⟨o + k.val, by omega⟩))
    (hd : ∀ r k, d (ix2 r k) = (R r).ds2 ⟨o + k.val, by omega⟩) (s : Fin 8) (k : Fin 256) :
    (shapeCast S8x256 (addf acc (multiReduction .add [0] S8x256 (shapeCast S32x8x256 d h0) 0#32 d1 d2 d3)) h1 :
      FVec Ideal S8x256 .f32) (ix2 s k) = dcG R A (ix2 s ⟨o + k.val, by omega⟩) :=
  (dc_tile o ho hd s k).trans (congrArg (· + _) (hacc s k))

/-- The last 64 columns of gradients of `s2` added to the columns of `A` they belong to. -/
theorem dc_in' {R : Fin 256 → Row} {A : Vec Ideal S8x2880 .f32} {d : FVec Ideal S256x64 .f32}
    {acc : FVec Ideal S8x64 .f32} (o : ℕ) (ho : o + 64 ≤ 2880) {h0 h1 d1 d2 d3}
    (hacc : ∀ s k, acc (ix2 s k) = A (ix2 s ⟨o + k.val, by omega⟩))
    (hd : ∀ r k, d (ix2 r k) = (R r).ds2 ⟨o + k.val, by omega⟩) (s : Fin 8) (k : Fin 64) :
    (shapeCast S8x64 (addf acc (multiReduction .add [0] S8x64 (shapeCast S32x8x64 d h0) 0#32 d1 d2 d3)) h1 :
      FVec Ideal S8x64 .f32) (ix2 s k) = dcG R A (ix2 s ⟨o + k.val, by omega⟩) :=
  (dc_tile' o ho hd s k).trans (congrArg (· + _) (hacc s k))

/-- The first point's store of a block of tokens' losses, over losses that hold `A` there. -/
theorem loss_step {R : Fin 256 → Row} {A : Vec Ideal S8x2048 .f32} {rs : FVec Ideal S256x256 .f32}
    {v : View sig .tc .vmem S8x2048 .f32} {L : List (View.Piece (Elt Ideal) S8x2048 .f32)}
    (o : ℕ) (ho : o + 256 ≤ 2048) {i0 i1 h0 h1 d1 d2 d3}
    (hrs : ∀ r t, rs (ix2 r t) = (R r).res ⟨o + t.val, by omega⟩)
    (hL : View.canon (Val := Elt Ideal) L = fun y => if (y 1).val < o then lossG R A y else A y) :
    View.canon (Val := Elt Ideal) ((⟨Rect.unit (s := S8x2048) ![0, o] S8x256.size i0,
      (shapeCast (α := Elt Ideal .f32) S8x256 (addf (φ := .f32) (ldW (b0 := 8) (b1 := 256) v L 0 o i1)
        (multiReduction .add [0] S8x256 (shapeCast S32x8x256 (mulf rs rs) h0) 0#32 d1 d2 d3)) h1 : FVec Ideal S8x256 .f32)⟩ :
        View.Piece (Elt Ideal) S8x2048 .f32) :: L)
      = fun y => if (y 1).val < o + 256 then lossG R A y else A y :=
  cols_step o ho (loss_in o ho (cols_read v o ho hL i1) hrs) hL

/-- The first point's store of 256 columns of gradients of `c`, over gradients that hold `A` there. -/
theorem dc_step {R : Fin 256 → Row} {A : Vec Ideal S8x2880 .f32} {d : FVec Ideal S256x256 .f32}
    {v : View sig .tc .vmem S8x2880 .f32} {L : List (View.Piece (Elt Ideal) S8x2880 .f32)}
    (o : ℕ) (ho : o + 256 ≤ 2880) {i0 i1 h0 h1 d1 d2 d3}
    (hd : ∀ r k, d (ix2 r k) = (R r).ds2 ⟨o + k.val, by omega⟩)
    (hL : View.canon (Val := Elt Ideal) L = fun y => if (y 1).val < o then dcG R A y else A y) :
    View.canon (Val := Elt Ideal) ((⟨Rect.unit (s := S8x2880) ![0, o] S8x256.size i0,
      (shapeCast (α := Elt Ideal .f32) S8x256 (addf (φ := .f32) (ldW (b0 := 8) (b1 := 256) v L 0 o i1)
        (multiReduction .add [0] S8x256 (shapeCast S32x8x256 d h0) 0#32 d1 d2 d3)) h1 : FVec Ideal S8x256 .f32)⟩ :
        View.Piece (Elt Ideal) S8x2880 .f32) :: L)
      = fun y => if (y 1).val < o + 256 then dcG R A y else A y :=
  cols_step o ho (dc_in o ho (cols_read v o ho hL i1) hd) hL

/-- The first point's store of the last 64 columns of gradients of `c`. -/
theorem dc_step' {R : Fin 256 → Row} {A : Vec Ideal S8x2880 .f32} {d : FVec Ideal S256x64 .f32}
    {v : View sig .tc .vmem S8x2880 .f32} {L : List (View.Piece (Elt Ideal) S8x2880 .f32)}
    (o : ℕ) (ho : o + 64 ≤ 2880) {i0 i1 h0 h1 d1 d2 d3}
    (hd : ∀ r k, d (ix2 r k) = (R r).ds2 ⟨o + k.val, by omega⟩)
    (hL : View.canon (Val := Elt Ideal) L = fun y => if (y 1).val < o then dcG R A y else A y) :
    View.canon (Val := Elt Ideal) ((⟨Rect.unit (s := S8x2880) ![0, o] S8x64.size i0,
      (shapeCast (α := Elt Ideal .f32) S8x64 (addf (φ := .f32) (ldW (b0 := 8) (b1 := 64) v L 0 o i1)
        (multiReduction .add [0] S8x64 (shapeCast S32x8x64 d h0) 0#32 d1 d2 d3)) h1 : FVec Ideal S8x64 .f32)⟩ :
        View.Piece (Elt Ideal) S8x2880 .f32) :: L)
      = fun y => if (y 1).val < o + 64 then dcG R A y else A y :=
  cols_step o ho (dc_in' o ho (cols_read v o ho hL i1) hd) hL

/-- A bound past the last column leaves `G` alone. -/
theorem cols_all {n0 n1 : ℕ} {e : EltTy} {G A : Vec Ideal ⟨2, ![n0, n1]⟩ e}
    {L : List (View.Piece (Elt Ideal) ⟨2, ![n0, n1]⟩ e)} (n : ℕ) (hn : n1 ≤ n)
    (hL : View.canon (Val := Elt Ideal) L = fun y => if (y 1).val < n then G y else A y) :
    View.canon (Val := Elt Ideal) L = G :=
  hL.trans (funext fun y => if_pos (lt_of_lt_of_le (y 1).isLt hn))

/-! ### The gradients of `r`, folded onto 128 lanes -/

/-- Lane `l` of the gradients of `s2`, summed over the first `n` blocks of 128 columns. -/
def drS (R : Row) (n : ℕ) (l : Fin 128) : EReal :=
  ∑ q ∈ Finset.range n, if h : q * 128 + l.val < 2880 then R.ds2 ⟨q * 128 + l.val, h⟩ else 0

/-- The lanes of a block of rows. -/
def drG (R : Fin 256 → Row) (n : ℕ) : Vec Ideal S256x128 .f32 := fun y => drS (R (y 0)) n (y 1)

variable {R : Fin 256 → Row}

/-- One more store over the whole block of lanes, which adds 128 columns of a block of 256. -/
theorem dr_step {L : List (View.Piece (Elt Ideal) S256x128 .f32)} {v : View sig .tc .vmem S256x128 .f32}
    {d : FVec Ideal S256x256 .f32} (o o1 n : ℕ) (ho : o + 256 ≤ 2880) (h1 : o1 + 128 ≤ 256) (hn : o + o1 = n * 128)
    {i0 i1 s1 c1} (hL : View.canon (Val := Elt Ideal) L = drG R n)
    (hd : ∀ r k, d (ix2 r k) = (R r).ds2 ⟨o + k.val, by omega⟩) :
    View.canon (Val := Elt Ideal) ((⟨Rect.unit (s := S256x128) ![0, 0] S256x128.size i0,
        (shapeCast (α := Elt Ideal .f32) S256x128 (addf (φ := .f32) (ldW (b0 := 256) (b1 := 128) v L 0 0 i1)
          (extractStridedSlice S256x128 ![0, o1] d s1)) c1 : FVec Ideal S256x128 .f32)⟩ :
          View.Piece (Elt Ideal) S256x128 .f32) :: L)
      = drG R (n + 1) := by
  have key : ∀ (r : Fin 256) (l : Fin 128), (shapeCast (α := Elt Ideal .f32) S256x128 (addf (φ := .f32)
      (ldW (b0 := 256) (b1 := 128) v L 0 0 i1) (extractStridedSlice S256x128 ![0, o1] d s1)) c1 :
        FVec Ideal S256x128 .f32) (ix2 r l) = drS (R r) (n + 1) l := by
    intro r l
    pointwise
    rw [show ldW (b0 := 256) (b1 := 128) v L 0 0 i1 (ix2 r l) = drS (R r) n l from
      readCov2e v hL 0 0 i1 r l r l (by simp) (by simp), hd]
    unfold drS
    rw [Finset.sum_range_succ, dif_pos (by omega)]
    congr 2
    exact Fin.ext (by simp only; omega)
  funext y
  exact (canon_head2 L 0 0 i0 _ y (y 0) (y 1) (by simp) (by simp)).trans (key (y 0) (y 1))

/-- The store of the last 64 columns, over the first 64 lanes. -/
theorem dr_last {L : List (View.Piece (Elt Ideal) S256x128 .f32)} {v : View sig .tc .vmem S256x128 .f32}
    {d : FVec Ideal S256x64 .f32} {i0 i1 c1} (hL : View.canon (Val := Elt Ideal) L = drG R 22)
    (hd : ∀ r k, d (ix2 r k) = (R r).ds2 ⟨2816 + k.val, by omega⟩) :
    View.canon (Val := Elt Ideal) ((⟨Rect.unit (s := S256x128) ![0, 0] S256x64.size i0,
        (shapeCast (α := Elt Ideal .f32) S256x64 (addf (φ := .f32) (ldW (b0 := 256) (b1 := 64) v L 0 0 i1) d) c1 :
          FVec Ideal S256x64 .f32)⟩ : View.Piece (Elt Ideal) S256x128 .f32) :: L)
      = drG R 23 := by
  have key : ∀ (r : Fin 256) (l : Fin 64), (shapeCast (α := Elt Ideal .f32) S256x64 (addf (φ := .f32)
      (ldW (b0 := 256) (b1 := 64) v L 0 0 i1) d) c1 : FVec Ideal S256x64 .f32) (ix2 r l)
        = drG R 23 (ix2 r ⟨0 + l.val, by omega⟩) := by
    intro r l
    pointwise
    rw [show ldW (b0 := 256) (b1 := 64) v L 0 0 i1 (ix2 r l) = drS (R r) 22 ⟨l.val, by omega⟩ from
      readCov2e v hL 0 0 i1 r l r ⟨l.val, by omega⟩ (by simp) (by simp), hd]
    show _ = drS (R r) 23 ⟨l.val, _⟩
    unfold drS
    rw [Finset.sum_range_succ _ 22, dif_pos (by simp only; omega)]
  have h0 : View.canon (Val := Elt Ideal) L = fun y => if (y 1).val < 0 then drG R 23 y else drG R 22 y := by
    rw [hL]; rfl
  refine (cols_step 0 (by omega) key h0).trans (funext fun y => ?_)
  dsimp only
  split
  · rfl
  · show drS _ 22 _ = drS _ 23 _
    unfold drS
    rw [Finset.sum_range_succ _ 22, dif_neg (by omega), add_zero]

/-- The sum over the lanes is the gradient of `r`. -/
theorem sum_drS (R : Row) : ∑ l : Fin 128, drS R 23 l = R.dr := by
  have h : ∀ f : ℕ → EReal, ∑ l : Fin 128, ∑ q ∈ Finset.range 23, f (q * 128 + l.val) = ∑ n : Fin 2944, f n.val := by
    intro f
    rw [Fin.sum_univ_tiles 23 128 rfl, Finset.sum_comm, Finset.sum_range]
  unfold drS
  rw [h fun n => if h : n < 2880 then R.ds2 ⟨n, h⟩ else 0]
  rw [Fin.sum_univ_eq_sum_range (fun n => if h : n < 2880 then R.ds2 ⟨n, h⟩ else 0) 2944,
    ← Finset.sum_subset (Finset.range_mono (show 2880 ≤ 2944 by omega)) fun n _ hn => dif_neg (by simpa using hn),
    Finset.sum_range]
  exact Finset.sum_congr rfl fun k _ => dif_pos k.2

/-! ### The gradients of `s1`, by rows -/

/-- Row `n` stored over rows that hold the gradients of the groups below `n`. -/
theorem rows_step {v : View sig .tc .vmem S128x256 .f32} {f : v.ty.Contents (Elt Ideal)}
    {L : List (View.Piece (Elt Ideal) S128x256 .f32)} (n : ℕ) {inb} {w : Vec Ideal S1x256 .f32} (hn : n < 45)
    (hw : ∀ (z : Fin 1) (r : Fin 256), w (ix2 z r) = (R r).ds1 ⟨n, hn⟩)
    (hL : ∀ (g : Fin 45), g.val < n → ∀ r : Fin 256,
      v.read (Elt Ideal) (v.writes (Elt Ideal) f L) (ix2 ⟨g.val, by omega⟩ r) = (R r).ds1 g) :
    ∀ (g : Fin 45), g.val < n + 1 → ∀ r : Fin 256,
      v.read (Elt Ideal) (v.writes (Elt Ideal) f
        ((⟨Rect.unit (s := S128x256) ![n, 0] S1x256.size inb, w⟩ : View.Piece (Elt Ideal) S128x256 .f32) :: L))
        (ix2 ⟨g.val, by omega⟩ r) = (R r).ds1 g := by
  intro g hg r
  by_cases h : g.val = n
  · subst h
    exact (View.read_writes_cons_unit_of_mem v f inb w L _ (ix2 (0 : Fin 1) r) rfl
      (by intro a; fin_cases a <;> simp [ix2])).trans (hw 0 r)
  · exact (View.read_writes_cons_unit_of_not_mem v f inb w L _ rfl (0 : Fin 2)
      (by left; show g.val < n; omega)).trans (hL g (by omega) r)

/-- The gradients of `r` as the kernel stores them: the lanes summed, as one row. -/
theorem pay1925_at {L : List (View.Piece (Elt Ideal) S256x128 .f32)} {v : View sig .tc .vmem S256x128 .f32} {i1 t}
    (hL : View.canon (Val := Elt Ideal) L = drG R 23) (z z' : Fin 1) (r : Fin 256) :
    k0_pay1925 (F := Ideal) (transpose S128x256 [1, 0] (ldW (b0 := 256) (b1 := 128) v L 0 0 i1) t) (ix3 z z' r)
      = (R r).dr := by
  unfold k0_pay1925
  pointwise
  rw [← sum_drS]
  exact Finset.sum_congr rfl fun l _ => readCov2e v hL 0 0 i1 r l r l (by simp) (by simp)

/-- The gradients of `s1` as the kernel stores them: the first 45 rows, transposed. -/
theorem pay1_at {d : FVec Ideal S128x256 .f32} (hd : ∀ (g : Fin 45) r, d (ix2 ⟨g.val, by omega⟩ r) = (R r).ds1 g)
    (r : Fin 256) (g : Fin 45) : k0_pay1 (F := Ideal) d (ix2 r g) = (R r).ds1 g := by
  unfold k0_pay1
  pointwise
  exact hd g r

/-- The loss as the kernel stores it: the eight rows summed, times the reciprocal of the number of outputs. -/
theorem pay2_at (d : FVec Ideal S8x2048 .f32) (z : Fin 1) (t : Fin 2048) :
    k0_pay2 (F := Ideal) d (ix2 z t) = (∑ s : Fin 8, d (ix2 s t)) * ((1 / 7680 : ℝ) : EReal) := by
  unfold k0_pay2
  pointwise
  rw [IdealRules.named_const.ideal_named_scalar _ _ _ _ rfl]

/-- The gradient of `c` as the kernel stores it: the eight rows summed. -/
theorem pay3_at (d : FVec Ideal S8x2880 .f32) (z : Fin 1) (k : Fin 2880) :
    k0_pay3 (F := Ideal) d (ix2 z k) = ∑ s : Fin 8, d (ix2 s k) := by
  unfold k0_pay3
  pointwise

/-- A load of a buffer with stores over other contents, at an index given by its coordinates. -/
theorem readWrites2e {n0 n1 b0 b1 : ℕ} {e : EltTy} {κ : Kind} {sp : Space} (v : View sig κ sp ⟨2, ![n0, n1]⟩ e)
    (f : v.ty.Contents (Elt Ideal)) (L : List (View.Piece (Elt Ideal) ⟨2, ![n0, n1]⟩ e)) (o0 o1 : ℕ) (inb)
    (i : Fin b0) (j : Fin b1) (i' : Fin n0) (j' : Fin n1) (hi : o0 + i.val = i'.val) (hj : o1 + j.val = j'.val) :
    (View.readAt (Elt Ideal) v (Rect.unit (s := ⟨2, ![n0, n1]⟩) ![o0, o1] ![b0, b1] inb).toLoadRect
      (v.writes (Elt Ideal) f L) : Vec Ideal ⟨2, ![b0, b1]⟩ e) (ix2 i j)
      = v.read (Elt Ideal) (v.writes (Elt Ideal) f L) (ix2 i' j') := by
  rw [View.readAt_eq_ld]
  show View.read _ _ _ _ = _
  congr 1
  funext a
  fin_cases a
  · exact Fin.ext (by simpa [Rect.emb, Rect.unit, ix2] using hi)
  · exact Fin.ext (by simpa [Rect.emb, Rect.unit, ix2] using hj)

/-- The gradients of `s1` a point leaves, read from rows stored over fresh contents. -/
theorem ds1_ld {v : View sig .tc .vmem S128x256 .f32} {L : List (View.Piece (Elt Ideal) S128x256 .f32)} {i0}
    (h : ∀ (g : Fin 45), g.val < 44 + 1 → ∀ r : Fin 256,
      v.read (Elt Ideal) (v.writes (Elt Ideal) v.junk L) (ix2 ⟨g.val, by omega⟩ r) = (R r).ds1 g) (g : Fin 45) (r : Fin 256) :
    ldW (b0 := 128) (b1 := 256) v L 0 0 i0 (ix2 ⟨g.val, by omega⟩ r) = (R r).ds1 g := by
  refine (readCov2e v rfl 0 0 i0 _ r ⟨g.val, by omega⟩ r (by simp) (by simp)).trans ?_
  rw [← View.read_writes_junk_eq_canon v]
  exact h g (by omega) r

end Cert.KBlock

end
-- ==== Proof.KQuantA.lean ====
/- The quantising phase at the first kind of grid point: what its stores leave in the four blocks it fills. -/
module

public import proofs.«01_k».proof.Proof.KBlock
public import proofs.«01_k».proof.Proof.Gen.KernelIdeal.Frame.RunA

@[expose] public section

set_option maxRecDepth 16384
set_option maxHeartbeats 0

noncomputable section

namespace Cert.KCaseA

open Idealize.ShloMosaic Idealize.ShloMosaic.TcCoe Cert.KernelIdeal Cert.KernelIdeal.Gen Cert.Spec Cert.KBlock
open Cert.KernelIdeal.Gen.kernelRun0_A

variable {c : Dev nD}
  {arg1 : Memref sig .tc .vmem S2048x2880 .fp8e4m3} {harg1 : arg1.IsWhole}
  {arg2 : Memref sig .tc .vmem S1x2048 .f32} {harg2 : arg2.IsWhole}
  {arg3 : Memref sig .tc .vmem S256x2880 .f32} {harg3 : arg3.IsWhole}
  {arg4 : Memref sig .tc .vmem S256x45 .f32} {harg4 : arg4.IsWhole}
  {arg5 : Memref sig .tc .vmem S256x2880 .f32} {harg5 : arg5.IsWhole}
  {arg6 : Memref sig .tc .vmem S1x1x256 .f32} {harg6 : arg6.IsWhole}
  {arg7 : Memref sig .tc .vmem S1x2880 .f32} {harg7 : arg7.IsWhole}
  {arg8 : Memref sig .tc .vmem S2048x256 .bf16} {harg8 : arg8.IsWhole}
  {arg16 : Memref sig .tc .vmem S256x2880 .bf16} {harg16 : arg16.IsWhole}
  {arg17 : Memref sig .tc .vmem S256x2880 .f32} {harg17 : arg17.IsWhole}
  {arg18 : Memref sig .tc .vmem S256x2880 .f32} {harg18 : arg18.IsWhole}
  {arg19 : Memref sig .tc .vmem S256x2048 .bf16} {harg19 : arg19.IsWhole}
  {arg20 : Memref sig .tc .vmem S256x128 .f32} {harg20 : arg20.IsWhole}
  {arg21 : Memref sig .tc .vmem S256x128 .f32} {harg21 : arg21.IsWhole}
  {arg22 : Memref sig .tc .vmem S1x2048 .f32} {harg22 : arg22.IsWhole}
  {arg23 : Memref sig .tc .vmem S8x2048 .f32} {harg23 : arg23.IsWhole}
  {arg24 : Memref sig .tc .vmem S256x128 .f32} {harg24 : arg24.IsWhole}
  {arg25 : Memref sig .tc .vmem S8x2880 .f32} {harg25 : arg25.IsWhole}
  {arg26 : Memref sig .tc .vmem S128x256 .f32} {harg26 : arg26.IsWhole}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}

/-- The stores of the dequantised weights, tile by tile. -/
theorem wh_pieces : View.PiecesOf (Val := Elt Ideal) (whG x0 x1 x2 x3 x4 x5 x6 x7)
    (sl.HS0_184 c arg3 harg3 arg4 harg4 arg5 harg5 arg6 harg6 arg7 harg7 arg20 arg21 x2 x3 x4 x5 x6) := by
  unfold sl.HS0_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- So the block holds the dequantised weights. -/
theorem wh_canon : View.canon (Val := Elt Ideal) (sl.HS0_184 c arg3 harg3 arg4 harg4 arg5 harg5 arg6 harg6 arg7 harg7 arg20 arg21 x2 x3 x4 x5 x6)
    = whG x0 x1 x2 x3 x4 x5 x6 x7 :=
  canon_of_pieces wh_pieces fun y => View.cover_of_tiledBy _ ![32, 64] (by sl_kernel_rfl) y

/-- The stores of the coefficients of the gradient of `s2`, tile by tile. -/
theorem a_pieces : View.PiecesOf (Val := Elt Ideal) (aG x0 x1 x2 x3 x4 x5 x6 x7)
    (sl.HS1_184 c arg3 harg3 arg4 harg4 arg5 harg5 arg6 harg6 arg7 harg7 arg20 arg21 x2 x3 x4 x5 x6) := by
  unfold sl.HS1_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      exact aG_at ..
  trivial

/-- So the block holds the coefficients of the gradient of `s2`. -/
theorem a_canon : View.canon (Val := Elt Ideal) (sl.HS1_184 c arg3 harg3 arg4 harg4 arg5 harg5 arg6 harg6 arg7 harg7 arg20 arg21 x2 x3 x4 x5 x6)
    = aG x0 x1 x2 x3 x4 x5 x6 x7 :=
  canon_of_pieces a_pieces fun y => View.cover_of_tiledBy _ ![32, 64] (by sl_kernel_rfl) y

/-- The stores of the coefficients of the gradient of `s1`, tile by tile. -/
theorem b_pieces : View.PiecesOf (Val := Elt Ideal) (bG x0 x1 x2 x3 x4 x5 x6 x7)
    (sl.HS2_184 c arg3 harg3 arg4 harg4 arg5 harg5 arg6 harg6 arg7 harg7 arg20 arg21 x2 x3 x4 x5 x6) := by
  unfold sl.HS2_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- So the block holds the coefficients of the gradient of `s1`. -/
theorem b_canon : View.canon (Val := Elt Ideal) (sl.HS2_184 c arg3 harg3 arg4 harg4 arg5 harg5 arg6 harg6 arg7 harg7 arg20 arg21 x2 x3 x4 x5 x6)
    = bG x0 x1 x2 x3 x4 x5 x6 x7 :=
  canon_of_pieces b_pieces fun y => View.cover_of_tiledBy _ ![32, 64] (by sl_kernel_rfl) y

end Cert.KCaseA

end
-- ==== Proof.KGradA.lean ====
/- The forward and the gradient phase at the first kind of grid point: what its stores leave in the blocks it keeps. -/
module

public import proofs.«01_k».proof.Proof.KStep
public import proofs.«01_k».proof.Proof.KQuantA

@[expose] public section

set_option maxRecDepth 16384
set_option maxHeartbeats 0

noncomputable section

namespace Cert.KCaseA

open Idealize.ShloMosaic Idealize.ShloMosaic.TcCoe Cert.KernelIdeal Cert.KernelIdeal.Gen Cert.Spec Cert.KBlock
open Cert.KernelIdeal.Gen.kernelRun0_A

variable {c : Dev nD}
  {arg1 : Memref sig .tc .vmem S2048x2880 .fp8e4m3} {harg1 : arg1.IsWhole}
  {arg2 : Memref sig .tc .vmem S1x2048 .f32} {harg2 : arg2.IsWhole}
  {arg3 : Memref sig .tc .vmem S256x2880 .f32} {harg3 : arg3.IsWhole}
  {arg4 : Memref sig .tc .vmem S256x45 .f32} {harg4 : arg4.IsWhole}
  {arg5 : Memref sig .tc .vmem S256x2880 .f32} {harg5 : arg5.IsWhole}
  {arg6 : Memref sig .tc .vmem S1x1x256 .f32} {harg6 : arg6.IsWhole}
  {arg7 : Memref sig .tc .vmem S1x2880 .f32} {harg7 : arg7.IsWhole}
  {arg8 : Memref sig .tc .vmem S2048x256 .bf16} {harg8 : arg8.IsWhole}
  {arg16 : Memref sig .tc .vmem S256x2880 .bf16} {harg16 : arg16.IsWhole}
  {arg17 : Memref sig .tc .vmem S256x2880 .f32} {harg17 : arg17.IsWhole}
  {arg18 : Memref sig .tc .vmem S256x2880 .f32} {harg18 : arg18.IsWhole}
  {arg19 : Memref sig .tc .vmem S256x2048 .bf16} {harg19 : arg19.IsWhole}
  {arg20 : Memref sig .tc .vmem S256x128 .f32} {harg20 : arg20.IsWhole}
  {arg21 : Memref sig .tc .vmem S256x128 .f32} {harg21 : arg21.IsWhole}
  {arg22 : Memref sig .tc .vmem S1x2048 .f32} {harg22 : arg22.IsWhole}
  {arg23 : Memref sig .tc .vmem S8x2048 .f32} {harg23 : arg23.IsWhole}
  {arg24 : Memref sig .tc .vmem S256x128 .f32} {harg24 : arg24.IsWhole}
  {arg25 : Memref sig .tc .vmem S8x2880 .f32} {harg25 : arg25.IsWhole}
  {arg26 : Memref sig .tc .vmem S128x256 .f32} {harg26 : arg26.IsWhole}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}

/-- The scaled token scales the first point stores. -/
theorem xc_canon : View.canon (Val := Elt Ideal) (sl.HS6_1 c arg2 harg2 x1) = xcG x1 := by
  unfold sl.HS6_1
  funext y
  refine (canon_head2 [] 0 0 _ _ y 0 (y 1) (by have := (y 0).isLt; simp at this ⊢; omega) (by simp)).trans ?_
  generalize hj : y 1 = j
  change Fin 2048 at j
  sl_unfold_run_names
  pointwise
  simp (disch := ((try dsimp only); omega)) only [read2, zero_add, Fin.val_zero]
  show _ = x1 (ix2 0 (y 1)) * _
  rw [hj]
  rfl

/-- The stores of the gradients that reach the product. -/
theorem et_pieces : View.PiecesOf (Val := Elt Ideal) (etG x0 x1 x2 x3 x4 x5 x6 x7)
    (sl.HS3_8 c arg1 harg1 arg2 harg2 arg3 harg3 arg4 harg4 arg5 harg5 arg6 harg6 arg7 harg7 arg8 harg8 arg16 arg20 arg21 arg22 x0 x1 x2 x3 x4 x5 x6 x7) := by
  unfold sl.HS3_8
  iterate 8
    refine pieces_cols _ _ _ _ _ (by decide) (fun r t => ?_) ?_
    · exact e_tile (R := krow x0 x1 x2 x3 x4 x5 x6 x7) _ (by decide) (res_at wh_canon _ (by decide))
        (fun _ t => readCov2e _ xc_canon _ _ _ _ _ 0 ⟨_ + t.val, by omega⟩ (by simp) (by simp)) r t
  trivial

/-- So the block holds them. -/
theorem et_canon : View.canon (Val := Elt Ideal) (sl.HS3_8 c arg1 harg1 arg2 harg2 arg3 harg3 arg4 harg4 arg5 harg5 arg6 harg6 arg7 harg7 arg8 harg8 arg16 arg20 arg21 arg22 x0 x1 x2 x3 x4 x5 x6 x7)
    = etG x0 x1 x2 x3 x4 x5 x6 x7 :=
  canon_of_pieces (et_pieces) fun y => View.cover_of_tiledBy _ ![256, 256] (by sl_kernel_rfl) y

/-- After the stores of the first seven blocks of tokens the losses hold their sums, and zero elsewhere. -/
theorem loss_chain : View.canon (Val := Elt Ideal) (sl.HS7_8 c arg1 harg1 arg2 harg2 arg3 harg3 arg4 harg4 arg5 harg5 arg6 harg6 arg7 harg7 arg8 harg8 arg16 arg20 arg21 arg23 x0 x1 x2 x3 x4 x5 x6 x7)
    = fun y => if (y 1).val < 1536 + 256 then lossG (krow x0 x1 x2 x3 x4 x5 x6 x7) (fun _ => (0 : EReal)) y else (0 : EReal) := by
  iterate 7
    refine loss_step _ (by decide) (res_at wh_canon _ (by decide)) ?_
  funext y
  refine (canon_head2 [] 0 0 _ _ y (y 0) (y 1) (by simp) (by simp)).trans ?_
  sl_unfold_run_names
  pointwise
  rfl

/-- After the stores of the first eleven blocks of columns the gradients of `c` hold their sums, and zero elsewhere. -/
theorem dc_chain : View.canon (Val := Elt Ideal) (sl.HS9_12 c arg1 harg1 arg2 harg2 arg3 harg3 arg4 harg4 arg5 harg5 arg6 harg6 arg7 harg7 arg8 harg8 arg16 arg17 arg19 arg20 arg21 arg22 arg25 x0 x1 x2 x3 x4 x5 x6 x7)
    = fun y => if (y 1).val < 2560 + 256 then dcG (krow x0 x1 x2 x3 x4 x5 x6 x7) (fun _ => (0 : EReal)) y else (0 : EReal) := by
  iterate 11
    refine dc_step _ (by decide) (ds2_at a_canon (et_canon) _ (by decide)) ?_
  funext y
  refine (canon_head2 [] 0 0 _ _ y (y 0) (y 1) (by simp) (by simp)).trans ?_
  sl_unfold_run_names
  pointwise
  rfl

/-- The rows of the gradients of `s1` after the stores of all groups, over any contents. -/
theorem ds1_rows (v : View sig .tc .vmem S128x256 .f32) (f : v.ty.Contents (Elt Ideal)) : ∀ (g : Fin 45), g.val < 44 + 1 → ∀ r : Fin 256,
    v.read (Elt Ideal) (v.writes (Elt Ideal) f (sl.HS10_46 c arg1 harg1 arg2 harg2 arg3 harg3 arg4 harg4 arg5 harg5 arg6 harg6 arg7 harg7 arg8 harg8 arg16 arg18 arg19 arg20 arg21 arg22 x0 x1 x2 x3 x4 x5 x6 x7)) (ix2 ⟨g.val, by omega⟩ r)
      = (krow x0 x1 x2 x3 x4 x5 x6 x7 r).ds1 g := by
  refine rows_step (R := krow x0 x1 x2 x3 x4 x5 x6 x7) _ (by decide) (ds1_at' b_canon (et_canon) _ _ (by decide) (by decide)) ?_
  iterate 44
    refine rows_step (R := krow x0 x1 x2 x3 x4 x5 x6 x7) _ (by decide) (ds1_at b_canon (et_canon) _ _ _ _ (by decide) (by decide) (by decide) (by decide)) ?_
  exact fun g hg => absurd hg (Nat.not_lt_zero _)

/-- After `22` folds the lanes hold the sums of the first `22` blocks of 128 columns. -/
theorem dr_chain : View.canon (Val := Elt Ideal) (sl.HS8_23 c arg1 harg1 arg2 harg2 arg3 harg3 arg4 harg4 arg5 harg5 arg6 harg6 arg7 harg7 arg8 harg8 arg16 arg17 arg19 arg20 arg21 arg22 arg24 x0 x1 x2 x3 x4 x5 x6 x7)
    = drG (krow x0 x1 x2 x3 x4 x5 x6 x7) 22 := by
  iterate 22
    refine dr_step _ _ _ (by decide) (by decide) (by decide) ?_ (ds2_at a_canon (et_canon) _ (by decide))
  funext y
  refine (canon_head2 [] 0 0 _ _ y (y 0) (y 1) (by simp) (by simp)).trans ?_
  sl_unfold_run_names
  pointwise
  rfl

/-- After the last fold the lanes hold the sums of all columns. -/
theorem dr_canon : View.canon (Val := Elt Ideal) (sl.HS8_24 c arg1 harg1 arg2 harg2 arg3 harg3 arg4 harg4 arg5 harg5 arg6 harg6 arg7 harg7 arg8 harg8 arg16 arg17 arg19 arg20 arg21 arg22 arg24 x0 x1 x2 x3 x4 x5 x6 x7)
    = drG (krow x0 x1 x2 x3 x4 x5 x6 x7) 23 :=
  dr_last (dr_chain) (ds2_at' a_canon (et_canon) _ (by decide))

end Cert.KCaseA

end
-- ==== Proof.KOutA.lean ====
/- What the first kind of grid point stores in each result and keeps for the next point. -/
module

public import proofs.«01_k».proof.Proof.KGradA
public import proofs.«01_k».proof.Proof.Gen.KernelIdeal.Frame

@[expose] public section

set_option maxRecDepth 16384
set_option maxHeartbeats 0

noncomputable section

namespace Cert.KCaseA

open Idealize.ShloMosaic Idealize.ShloMosaic.TcCoe Cert.KernelIdeal Cert.KernelIdeal.Gen Cert.Spec Cert.KBlock
open Cert.KernelIdeal.Gen.kernelRun0_A

variable {c : Dev nD} {i : grid0.Coords} {arg1 : Memref sig .tc .vmem S2048x2880 .fp8e4m3} {harg1 : arg1.IsWhole}
  {arg2 : Memref sig .tc .vmem S1x2048 .f32} {harg2 : arg2.IsWhole} {arg3 : Memref sig .tc .vmem S256x2880 .f32}
  {harg3 : arg3.IsWhole} {arg4 : Memref sig .tc .vmem S256x45 .f32} {harg4 : arg4.IsWhole}
  {arg5 : Memref sig .tc .vmem S256x2880 .f32} {harg5 : arg5.IsWhole} {arg6 : Memref sig .tc .vmem S1x1x256 .f32}
  {harg6 : arg6.IsWhole} {arg7 : Memref sig .tc .vmem S1x2880 .f32} {harg7 : arg7.IsWhole}
  {arg8 : Memref sig .tc .vmem S2048x256 .bf16} {harg8 : arg8.IsWhole} {arg9 : Memref sig .tc .vmem S1x2048 .f32}
  {harg9 : arg9.IsWhole} {arg10 : Memref sig .tc .vmem S256x2880 .f32} {harg10 : arg10.IsWhole}
  {arg11 : Memref sig .tc .vmem S1x1x256 .f32} {harg11 : arg11.IsWhole} {arg12 : Memref sig .tc .vmem S1x2880 .f32}
  {harg12 : arg12.IsWhole} {arg13 : Memref sig .tc .vmem S256x45 .f32} {harg13 : arg13.IsWhole}
  {arg14 : Memref sig .tc .vmem S256x2880 .i8} {harg14 : arg14.IsWhole} {arg15 : Memref sig .tc .vmem S256x45 .f32}
  {harg15 : arg15.IsWhole} {arg16 : Memref sig .tc .vmem S256x2880 .bf16} {harg16 : arg16.IsWhole}
  {arg17 : Memref sig .tc .vmem S256x2880 .f32} {harg17 : arg17.IsWhole} {arg18 : Memref sig .tc .vmem S256x2880 .f32}
  {harg18 : arg18.IsWhole} {arg19 : Memref sig .tc .vmem S256x2048 .bf16} {harg19 : arg19.IsWhole}
  {arg20 : Memref sig .tc .vmem S256x128 .f32} {harg20 : arg20.IsWhole} {arg21 : Memref sig .tc .vmem S256x128 .f32}
  {harg21 : arg21.IsWhole} {arg22 : Memref sig .tc .vmem S1x2048 .f32} {harg22 : arg22.IsWhole}
  {arg23 : Memref sig .tc .vmem S8x2048 .f32} {harg23 : arg23.IsWhole} {arg24 : Memref sig .tc .vmem S256x128 .f32}
  {harg24 : arg24.IsWhole} {arg25 : Memref sig .tc .vmem S8x2880 .f32} {harg25 : arg25.IsWhole}
  {arg26 : Memref sig .tc .vmem S128x256 .f32} {harg26 : arg26.IsWhole} {hc0 : cond0_0 i} {hc1 : ¬cond0_1 i}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}

/-- The gradients of `s2` of the block. -/
theorem out9 : out0_A_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = ds2G x0 x1 x2 x3 x4 x5 x6 x7 := by
  unfold out0_A_9
  rw [View.read_writes_junk_eq_canon]
  refine canon_of_pieces ?_ (cover0_A_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7)
  unfold kernelRun0_A
  dsimp only
  refine pieces_cols _ _ _ _ _ (by decide) (ds2_at' a_canon (et_canon) _ (by decide)) ?_
  iterate 11
    refine pieces_cols _ _ _ _ _ (by decide) (ds2_at a_canon (et_canon) _ (by decide)) ?_
  trivial

/-- The gradients of `r` of the block. -/
theorem out10 : out0_A_10 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = fun y => (krow x0 x1 x2 x3 x4 x5 x6 x7 (y 2)).dr := by
  unfold out0_A_10
  rw [View.read_writes_junk_eq_canon]
  unfold kernelRun0_A
  dsimp only
  funext y
  have hy : y = ix3 (y 0) (y 1) (y 2) := by funext a; fin_cases a <;> rfl
  refine (congrFun (View.canon_cons_unit_zero (S := S1x1x256) (by funext a; fin_cases a <;> rfl) _ _ _) y).trans ?_
  exact (congrArg _ hy).trans (pay1925_at (R := krow x0 x1 x2 x3 x4 x5 x6 x7) (dr_canon) (y 0) (y 1) (y 2))

/-- The gradients of `s1` of the block. -/
theorem out12 : out0_A_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = fun y => (krow x0 x1 x2 x3 x4 x5 x6 x7 (y 0)).ds1 (y 1) := by
  unfold out0_A_12
  rw [View.read_writes_junk_eq_canon]
  unfold kernelRun0_A
  dsimp only
  funext y
  refine (canon_head2 [] 0 0 _ _ y (y 0) (y 1) (by simp) (by simp)).trans ?_
  exact pay1_at (R := krow x0 x1 x2 x3 x4 x5 x6 x7) (ds1_ld (ds1_rows _ _)) (y 0) (y 1)

/-- The codes of the block. -/
theorem out13 : out0_A_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = codeG x0 x1 x2 x3 x4 x5 x6 x7 := by
  unfold out0_A_13
  rw [View.read_writes_junk_eq_canon]
  refine canon_of_pieces ?_ (cover0_A_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7)
  unfold kernelRun0_A
  dsimp only
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- The scales of the block. -/
theorem out14 : out0_A_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = x3 := by
  unfold out0_A_14
  rw [View.read_writes_junk_eq_canon]
  unfold kernelRun0_A
  dsimp only
  funext y
  have hy : y = ix2 (y 0) (y 1) := by funext a; fin_cases a <;> rfl
  refine (canon_head2 [] 0 0 _ _ y (y 0) (y 1) (by simp) (by simp)).trans ?_
  exact (read2e _ _ _ _ _ _ _ _ (y 0) (y 1) (by simp) (by simp)).trans (congrArg x3 hy.symm)

/-- The scaled token scales kept for the next point. -/
theorem sout6 : sout0_A_6 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = xcG x1 := by
  unfold sout0_A_6
  rw [View.read_writes_junk_eq_canon]
  unfold kernelRun0_A
  dsimp only
  exact xc_canon

/-- The losses kept for the next point. -/
theorem sout7 : sout0_A_7 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = lossG (krow x0 x1 x2 x3 x4 x5 x6 x7) fun _ => (0 : EReal) := by
  unfold sout0_A_7
  rw [View.read_writes_junk_eq_canon]
  unfold kernelRun0_A
  dsimp only
  exact cols_all 2048 (by decide) (loss_step 1792 (by decide) (res_at wh_canon _ (by decide)) loss_chain)

/-- The gradients of `c` kept for the next point. -/
theorem sout9 : sout0_A_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7
    = dcG (krow x0 x1 x2 x3 x4 x5 x6 x7) fun _ => (0 : EReal) := by
  unfold sout0_A_9
  rw [View.read_writes_junk_eq_canon]
  unfold kernelRun0_A
  dsimp only
  exact cols_all 2880 (by decide) (dc_step' 2816 (by decide) (ds2_at' a_canon (et_canon) _ (by decide)) dc_chain)

end Cert.KCaseA

end
-- ==== Proof.KQuantB.lean ====
/- The quantising phase at the middle kind of grid point: what its stores leave in the four blocks it fills. -/
module

public import proofs.«01_k».proof.Proof.KBlock
public import proofs.«01_k».proof.Proof.Gen.KernelIdeal.Frame.RunB

@[expose] public section

set_option maxRecDepth 16384
set_option maxHeartbeats 0

noncomputable section

namespace Cert.KCaseB

open Idealize.ShloMosaic Idealize.ShloMosaic.TcCoe Cert.KernelIdeal Cert.KernelIdeal.Gen Cert.Spec Cert.KBlock
open Cert.KernelIdeal.Gen.kernelRun0_B

variable {c : Dev nD}
  {arg1 : Memref sig .tc .vmem S2048x2880 .fp8e4m3} {harg1 : arg1.IsWhole}
  {arg2 : Memref sig .tc .vmem S1x2048 .f32} {harg2 : arg2.IsWhole}
  {arg3 : Memref sig .tc .vmem S256x2880 .f32} {harg3 : arg3.IsWhole}
  {arg4 : Memref sig .tc .vmem S256x45 .f32} {harg4 : arg4.IsWhole}
  {arg5 : Memref sig .tc .vmem S256x2880 .f32} {harg5 : arg5.IsWhole}
  {arg6 : Memref sig .tc .vmem S1x1x256 .f32} {harg6 : arg6.IsWhole}
  {arg7 : Memref sig .tc .vmem S1x2880 .f32} {harg7 : arg7.IsWhole}
  {arg8 : Memref sig .tc .vmem S2048x256 .bf16} {harg8 : arg8.IsWhole}
  {arg16 : Memref sig .tc .vmem S256x2880 .bf16} {harg16 : arg16.IsWhole}
  {arg17 : Memref sig .tc .vmem S256x2880 .f32} {harg17 : arg17.IsWhole}
  {arg18 : Memref sig .tc .vmem S256x2880 .f32} {harg18 : arg18.IsWhole}
  {arg19 : Memref sig .tc .vmem S256x2048 .bf16} {harg19 : arg19.IsWhole}
  {arg20 : Memref sig .tc .vmem S256x128 .f32} {harg20 : arg20.IsWhole}
  {arg21 : Memref sig .tc .vmem S256x128 .f32} {harg21 : arg21.IsWhole}
  {arg22 : Memref sig .tc .vmem S1x2048 .f32} {harg22 : arg22.IsWhole}
  {arg23 : Memref sig .tc .vmem S8x2048 .f32} {harg23 : arg23.IsWhole}
  {arg24 : Memref sig .tc .vmem S256x128 .f32} {harg24 : arg24.IsWhole}
  {arg25 : Memref sig .tc .vmem S8x2880 .f32} {harg25 : arg25.IsWhole}
  {arg26 : Memref sig .tc .vmem S128x256 .f32} {harg26 : arg26.IsWhole}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}
  {xs4 : Vec Ideal S256x128 .f32} {xs6 : Vec Ideal S1x2048 .f32} {xs7 : Vec Ideal S8x2048 .f32}
  {xs9 : Vec Ideal S8x2880 .f32} {xs10 : Vec Ideal S128x256 .f32}

/-- The stores of the dequantised weights, tile by tile. -/
theorem wh_pieces : View.PiecesOf (Val := Elt Ideal) (whG x0 x1 x2 x3 x4 x5 x6 x7)
    (sl.HS0_184 c arg3 harg3 arg4 harg4 arg5 harg5 arg6 harg6 arg7 harg7 arg20 harg20 arg21 x2 x3 x4 x5 x6 xs4) := by
  unfold sl.HS0_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- So the block holds the dequantised weights. -/
theorem wh_canon : View.canon (Val := Elt Ideal) (sl.HS0_184 c arg3 harg3 arg4 harg4 arg5 harg5 arg6 harg6 arg7 harg7 arg20 harg20 arg21 x2 x3 x4 x5 x6 xs4)
    = whG x0 x1 x2 x3 x4 x5 x6 x7 :=
  canon_of_pieces wh_pieces fun y => View.cover_of_tiledBy _ ![32, 64] (by sl_kernel_rfl) y

/-- The stores of the coefficients of the gradient of `s2`, tile by tile. -/
theorem a_pieces : View.PiecesOf (Val := Elt Ideal) (aG x0 x1 x2 x3 x4 x5 x6 x7)
    (sl.HS1_184 c arg3 harg3 arg4 harg4 arg5 harg5 arg6 harg6 arg7 harg7 arg20 harg20 arg21 x2 x3 x4 x5 x6 xs4) := by
  unfold sl.HS1_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      exact aG_at ..
  trivial

/-- So the block holds the coefficients of the gradient of `s2`. -/
theorem a_canon : View.canon (Val := Elt Ideal) (sl.HS1_184 c arg3 harg3 arg4 harg4 arg5 harg5 arg6 harg6 arg7 harg7 arg20 harg20 arg21 x2 x3 x4 x5 x6 xs4)
    = aG x0 x1 x2 x3 x4 x5 x6 x7 :=
  canon_of_pieces a_pieces fun y => View.cover_of_tiledBy _ ![32, 64] (by sl_kernel_rfl) y

/-- The stores of the coefficients of the gradient of `s1`, tile by tile. -/
theorem b_pieces : View.PiecesOf (Val := Elt Ideal) (bG x0 x1 x2 x3 x4 x5 x6 x7)
    (sl.HS2_184 c arg3 harg3 arg4 harg4 arg5 harg5 arg6 harg6 arg7 harg7 arg20 harg20 arg21 x2 x3 x4 x5 x6 xs4) := by
  unfold sl.HS2_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- So the block holds the coefficients of the gradient of `s1`. -/
theorem b_canon : View.canon (Val := Elt Ideal) (sl.HS2_184 c arg3 harg3 arg4 harg4 arg5 harg5 arg6 harg6 arg7 harg7 arg20 harg20 arg21 x2 x3 x4 x5 x6 xs4)
    = bG x0 x1 x2 x3 x4 x5 x6 x7 :=
  canon_of_pieces b_pieces fun y => View.cover_of_tiledBy _ ![32, 64] (by sl_kernel_rfl) y

end Cert.KCaseB

end
-- ==== Proof.KGradB.lean ====
/- The forward and the gradient phase at the middle kind of grid point: what its stores leave in the blocks it keeps. -/
module

public import proofs.«01_k».proof.Proof.KStep
public import proofs.«01_k».proof.Proof.KQuantB

@[expose] public section

set_option maxRecDepth 16384
set_option maxHeartbeats 0

noncomputable section

namespace Cert.KCaseB

open Idealize.ShloMosaic Idealize.ShloMosaic.TcCoe Cert.KernelIdeal Cert.KernelIdeal.Gen Cert.Spec Cert.KBlock
open Cert.KernelIdeal.Gen.kernelRun0_B

variable {c : Dev nD}
  {arg1 : Memref sig .tc .vmem S2048x2880 .fp8e4m3} {harg1 : arg1.IsWhole}
  {arg2 : Memref sig .tc .vmem S1x2048 .f32} {harg2 : arg2.IsWhole}
  {arg3 : Memref sig .tc .vmem S256x2880 .f32} {harg3 : arg3.IsWhole}
  {arg4 : Memref sig .tc .vmem S256x45 .f32} {harg4 : arg4.IsWhole}
  {arg5 : Memref sig .tc .vmem S256x2880 .f32} {harg5 : arg5.IsWhole}
  {arg6 : Memref sig .tc .vmem S1x1x256 .f32} {harg6 : arg6.IsWhole}
  {arg7 : Memref sig .tc .vmem S1x2880 .f32} {harg7 : arg7.IsWhole}
  {arg8 : Memref sig .tc .vmem S2048x256 .bf16} {harg8 : arg8.IsWhole}
  {arg16 : Memref sig .tc .vmem S256x2880 .bf16} {harg16 : arg16.IsWhole}
  {arg17 : Memref sig .tc .vmem S256x2880 .f32} {harg17 : arg17.IsWhole}
  {arg18 : Memref sig .tc .vmem S256x2880 .f32} {harg18 : arg18.IsWhole}
  {arg19 : Memref sig .tc .vmem S256x2048 .bf16} {harg19 : arg19.IsWhole}
  {arg20 : Memref sig .tc .vmem S256x128 .f32} {harg20 : arg20.IsWhole}
  {arg21 : Memref sig .tc .vmem S256x128 .f32} {harg21 : arg21.IsWhole}
  {arg22 : Memref sig .tc .vmem S1x2048 .f32} {harg22 : arg22.IsWhole}
  {arg23 : Memref sig .tc .vmem S8x2048 .f32} {harg23 : arg23.IsWhole}
  {arg24 : Memref sig .tc .vmem S256x128 .f32} {harg24 : arg24.IsWhole}
  {arg25 : Memref sig .tc .vmem S8x2880 .f32} {harg25 : arg25.IsWhole}
  {arg26 : Memref sig .tc .vmem S128x256 .f32} {harg26 : arg26.IsWhole}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}
  {xs4 : Vec Ideal S256x128 .f32} {xs6 : Vec Ideal S1x2048 .f32} {xs7 : Vec Ideal S8x2048 .f32}
  {xs9 : Vec Ideal S8x2880 .f32} {xs10 : Vec Ideal S128x256 .f32}

/-- The stores of the gradients that reach the product. -/
theorem et_pieces (hxc : xs6 = xcG x1) : View.PiecesOf (Val := Elt Ideal) (etG x0 x1 x2 x3 x4 x5 x6 x7)
    (sl.HS3_8 c arg1 harg1 arg2 harg2 arg3 harg3 arg4 harg4 arg5 harg5 arg6 harg6 arg7 harg7 arg8 harg8 arg16 arg20 harg20 arg21 arg22 harg22 x0 x1 x2 x3 x4 x5 x6 x7 xs4 xs6) := by
  unfold sl.HS3_8
  iterate 8
    refine pieces_cols _ _ _ _ _ (by decide) (fun r t => ?_) ?_
    · exact e_tile (R := krow x0 x1 x2 x3 x4 x5 x6 x7) _ (by decide) (res_at wh_canon _ (by decide))
        (fun _ t => (read2e _ _ _ _ _ _ _ _ 0 ⟨_ + t.val, by omega⟩ (by simp) (by simp)).trans (congrFun hxc _)) r t
  trivial

/-- So the block holds them. -/
theorem et_canon (hxc : xs6 = xcG x1) : View.canon (Val := Elt Ideal) (sl.HS3_8 c arg1 harg1 arg2 harg2 arg3 harg3 arg4 harg4 arg5 harg5 arg6 harg6 arg7 harg7 arg8 harg8 arg16 arg20 harg20 arg21 arg22 harg22 x0 x1 x2 x3 x4 x5 x6 x7 xs4 xs6)
    = etG x0 x1 x2 x3 x4 x5 x6 x7 :=
  canon_of_pieces (et_pieces hxc) fun y => View.cover_of_tiledBy _ ![256, 256] (by sl_kernel_rfl) y

/-- The rows of the gradients of `s1` after the stores of all groups, over any contents. -/
theorem ds1_rows (hxc : xs6 = xcG x1) (v : View sig .tc .vmem S128x256 .f32) (f : v.ty.Contents (Elt Ideal)) : ∀ (g : Fin 45), g.val < 44 + 1 → ∀ r : Fin 256,
    v.read (Elt Ideal) (v.writes (Elt Ideal) f (sl.HS10_45 c arg1 harg1 arg2 harg2 arg3 harg3 arg4 harg4 arg5 harg5 arg6 harg6 arg7 harg7 arg8 harg8 arg16 arg18 arg19 arg20 harg20 arg21 arg22 harg22 x0 x1 x2 x3 x4 x5 x6 x7 xs4 xs6)) (ix2 ⟨g.val, by omega⟩ r)
      = (krow x0 x1 x2 x3 x4 x5 x6 x7 r).ds1 g := by
  refine rows_step (R := krow x0 x1 x2 x3 x4 x5 x6 x7) _ (by decide) (ds1_at' b_canon (et_canon hxc) _ _ (by decide) (by decide)) ?_
  iterate 44
    refine rows_step (R := krow x0 x1 x2 x3 x4 x5 x6 x7) _ (by decide) (ds1_at b_canon (et_canon hxc) _ _ _ _ (by decide) (by decide) (by decide) (by decide)) ?_
  exact fun g hg => absurd hg (Nat.not_lt_zero _)

/-- After `22` folds the lanes hold the sums of the first `22` blocks of 128 columns. -/
theorem dr_chain (hxc : xs6 = xcG x1) : View.canon (Val := Elt Ideal) (sl.HS8_23 c arg1 harg1 arg2 harg2 arg3 harg3 arg4 harg4 arg5 harg5 arg6 harg6 arg7 harg7 arg8 harg8 arg16 arg17 arg19 arg20 harg20 arg21 arg22 harg22 arg24 x0 x1 x2 x3 x4 x5 x6 x7 xs4 xs6)
    = drG (krow x0 x1 x2 x3 x4 x5 x6 x7) 22 := by
  iterate 22
    refine dr_step _ _ _ (by decide) (by decide) (by decide) ?_ (ds2_at a_canon (et_canon hxc) _ (by decide))
  funext y
  refine (canon_head2 [] 0 0 _ _ y (y 0) (y 1) (by simp) (by simp)).trans ?_
  sl_unfold_run_names
  pointwise
  rfl

/-- After the last fold the lanes hold the sums of all columns. -/
theorem dr_canon (hxc : xs6 = xcG x1) : View.canon (Val := Elt Ideal) (sl.HS8_24 c arg1 harg1 arg2 harg2 arg3 harg3 arg4 harg4 arg5 harg5 arg6 harg6 arg7 harg7 arg8 harg8 arg16 arg17 arg19 arg20 harg20 arg21 arg22 harg22 arg24 x0 x1 x2 x3 x4 x5 x6 x7 xs4 xs6)
    = drG (krow x0 x1 x2 x3 x4 x5 x6 x7) 23 :=
  dr_last (dr_chain hxc) (ds2_at' a_canon (et_canon hxc) _ (by decide))

end Cert.KCaseB

end
-- ==== Proof.KOutB.lean ====
/- What the middle kind of grid point stores in each result and keeps for the next point. -/
module

public import proofs.«01_k».proof.Proof.KGradB
public import proofs.«01_k».proof.Proof.Gen.KernelIdeal.Frame

@[expose] public section

set_option maxRecDepth 16384
set_option maxHeartbeats 0

noncomputable section

namespace Cert.KCaseB

open Idealize.ShloMosaic Idealize.ShloMosaic.TcCoe Cert.KernelIdeal Cert.KernelIdeal.Gen Cert.Spec Cert.KBlock
open Cert.KernelIdeal.Gen.kernelRun0_B

variable {c : Dev nD} {i : grid0.Coords} {arg1 : Memref sig .tc .vmem S2048x2880 .fp8e4m3} {harg1 : arg1.IsWhole}
  {arg2 : Memref sig .tc .vmem S1x2048 .f32} {harg2 : arg2.IsWhole} {arg3 : Memref sig .tc .vmem S256x2880 .f32}
  {harg3 : arg3.IsWhole} {arg4 : Memref sig .tc .vmem S256x45 .f32} {harg4 : arg4.IsWhole}
  {arg5 : Memref sig .tc .vmem S256x2880 .f32} {harg5 : arg5.IsWhole} {arg6 : Memref sig .tc .vmem S1x1x256 .f32}
  {harg6 : arg6.IsWhole} {arg7 : Memref sig .tc .vmem S1x2880 .f32} {harg7 : arg7.IsWhole}
  {arg8 : Memref sig .tc .vmem S2048x256 .bf16} {harg8 : arg8.IsWhole} {arg9 : Memref sig .tc .vmem S1x2048 .f32}
  {harg9 : arg9.IsWhole} {arg10 : Memref sig .tc .vmem S256x2880 .f32} {harg10 : arg10.IsWhole}
  {arg11 : Memref sig .tc .vmem S1x1x256 .f32} {harg11 : arg11.IsWhole} {arg12 : Memref sig .tc .vmem S1x2880 .f32}
  {harg12 : arg12.IsWhole} {arg13 : Memref sig .tc .vmem S256x45 .f32} {harg13 : arg13.IsWhole}
  {arg14 : Memref sig .tc .vmem S256x2880 .i8} {harg14 : arg14.IsWhole} {arg15 : Memref sig .tc .vmem S256x45 .f32}
  {harg15 : arg15.IsWhole} {arg16 : Memref sig .tc .vmem S256x2880 .bf16} {harg16 : arg16.IsWhole}
  {arg17 : Memref sig .tc .vmem S256x2880 .f32} {harg17 : arg17.IsWhole} {arg18 : Memref sig .tc .vmem S256x2880 .f32}
  {harg18 : arg18.IsWhole} {arg19 : Memref sig .tc .vmem S256x2048 .bf16} {harg19 : arg19.IsWhole}
  {arg20 : Memref sig .tc .vmem S256x128 .f32} {harg20 : arg20.IsWhole} {arg21 : Memref sig .tc .vmem S256x128 .f32}
  {harg21 : arg21.IsWhole} {arg22 : Memref sig .tc .vmem S1x2048 .f32} {harg22 : arg22.IsWhole}
  {arg23 : Memref sig .tc .vmem S8x2048 .f32} {harg23 : arg23.IsWhole} {arg24 : Memref sig .tc .vmem S256x128 .f32}
  {harg24 : arg24.IsWhole} {arg25 : Memref sig .tc .vmem S8x2880 .f32} {harg25 : arg25.IsWhole}
  {arg26 : Memref sig .tc .vmem S128x256 .f32} {harg26 : arg26.IsWhole} {hc0 : ¬cond0_0 i} {hc1 : ¬cond0_1 i}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16} {xs4 : Vec Ideal S256x128 .f32}
  {xs6 : Vec Ideal S1x2048 .f32} {xs7 : Vec Ideal S8x2048 .f32} {xs9 : Vec Ideal S8x2880 .f32}
  {xs10 : Vec Ideal S128x256 .f32}

/-- The gradients of `s2` of the block. -/
theorem out9 (hxc : xs6 = xcG x1) : out0_B_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = ds2G x0 x1 x2 x3 x4 x5 x6 x7 := by
  unfold out0_B_9
  rw [View.read_writes_junk_eq_canon]
  refine canon_of_pieces ?_ (cover0_B_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10)
  unfold kernelRun0_B
  dsimp only
  refine pieces_cols _ _ _ _ _ (by decide) (ds2_at' a_canon (et_canon hxc) _ (by decide)) ?_
  iterate 11
    refine pieces_cols _ _ _ _ _ (by decide) (ds2_at a_canon (et_canon hxc) _ (by decide)) ?_
  trivial

/-- The gradients of `r` of the block. -/
theorem out10 (hxc : xs6 = xcG x1) : out0_B_10 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = fun y => (krow x0 x1 x2 x3 x4 x5 x6 x7 (y 2)).dr := by
  unfold out0_B_10
  rw [View.read_writes_junk_eq_canon]
  unfold kernelRun0_B
  dsimp only
  funext y
  have hy : y = ix3 (y 0) (y 1) (y 2) := by funext a; fin_cases a <;> rfl
  refine (congrFun (View.canon_cons_unit_zero (S := S1x1x256) (by funext a; fin_cases a <;> rfl) _ _ _) y).trans ?_
  exact (congrArg _ hy).trans (pay1925_at (R := krow x0 x1 x2 x3 x4 x5 x6 x7) (dr_canon hxc) (y 0) (y 1) (y 2))

/-- The gradients of `s1` of the block. -/
theorem out12 (hxc : xs6 = xcG x1) : out0_B_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = fun y => (krow x0 x1 x2 x3 x4 x5 x6 x7 (y 0)).ds1 (y 1) := by
  unfold out0_B_12
  rw [View.read_writes_junk_eq_canon]
  unfold kernelRun0_B
  dsimp only
  funext y
  refine (canon_head2 [] 0 0 _ _ y (y 0) (y 1) (by simp) (by simp)).trans ?_
  exact pay1_at (R := krow x0 x1 x2 x3 x4 x5 x6 x7) (fun g r => (readWrites2e _ _ _ 0 0 _ _ r ⟨g.val, by omega⟩ r (by simp) (by simp)).trans (ds1_rows hxc _ _ g (by omega) r)) (y 0) (y 1)

/-- The codes of the block. -/
theorem out13 : out0_B_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = codeG x0 x1 x2 x3 x4 x5 x6 x7 := by
  unfold out0_B_13
  rw [View.read_writes_junk_eq_canon]
  refine canon_of_pieces ?_ (cover0_B_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10)
  unfold kernelRun0_B
  dsimp only
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- The scales of the block. -/
theorem out14 : out0_B_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = x3 := by
  unfold out0_B_14
  rw [View.read_writes_junk_eq_canon]
  unfold kernelRun0_B
  dsimp only
  funext y
  have hy : y = ix2 (y 0) (y 1) := by funext a; fin_cases a <;> rfl
  refine (canon_head2 [] 0 0 _ _ y (y 0) (y 1) (by simp) (by simp)).trans ?_
  exact (read2e _ _ _ _ _ _ _ _ (y 0) (y 1) (by simp) (by simp)).trans (congrArg x3 hy.symm)

/-- The losses kept for the next point. -/
theorem sout7 : sout0_B_7 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = lossG (krow x0 x1 x2 x3 x4 x5 x6 x7) xs7 := by
  unfold sout0_B_7
  rw [View.read_writes_junk_eq_canon]
  refine canon_of_pieces ?_ (scover0_B_7 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10)
  unfold kernelRun0_B
  dsimp only
  iterate 8
    refine pieces_cols _ _ _ _ _ (by decide) (loss_in _ (by decide) (cols_readI _ _ _ _ (by decide) _) (res_at wh_canon _ (by decide))) ?_
  trivial

/-- The gradients of `c` kept for the next point. -/
theorem sout9 (hxc : xs6 = xcG x1) : sout0_B_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = dcG (krow x0 x1 x2 x3 x4 x5 x6 x7) xs9 := by
  unfold sout0_B_9
  rw [View.read_writes_junk_eq_canon]
  refine canon_of_pieces ?_ (scover0_B_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10)
  unfold kernelRun0_B
  dsimp only
  refine pieces_cols _ _ _ _ _ (by decide) (dc_in' _ (by decide) (cols_readI _ _ _ _ (by decide) _) (ds2_at' a_canon (et_canon hxc) _ (by decide))) ?_
  iterate 11
    refine pieces_cols _ _ _ _ _ (by decide) (dc_in _ (by decide) (cols_readI _ _ _ _ (by decide) _) (ds2_at a_canon (et_canon hxc) _ (by decide))) ?_
  trivial

end Cert.KCaseB

end
-- ==== Proof.KQuantC.lean ====
/- The quantising phase at the last kind of grid point: what its stores leave in the four blocks it fills. -/
module

public import proofs.«01_k».proof.Proof.KBlock
public import proofs.«01_k».proof.Proof.Gen.KernelIdeal.Frame.RunC

@[expose] public section

set_option maxRecDepth 16384
set_option maxHeartbeats 0

noncomputable section

namespace Cert.KCaseC

open Idealize.ShloMosaic Idealize.ShloMosaic.TcCoe Cert.KernelIdeal Cert.KernelIdeal.Gen Cert.Spec Cert.KBlock
open Cert.KernelIdeal.Gen.kernelRun0_C

variable {c : Dev nD}
  {arg1 : Memref sig .tc .vmem S2048x2880 .fp8e4m3} {harg1 : arg1.IsWhole}
  {arg2 : Memref sig .tc .vmem S1x2048 .f32} {harg2 : arg2.IsWhole}
  {arg3 : Memref sig .tc .vmem S256x2880 .f32} {harg3 : arg3.IsWhole}
  {arg4 : Memref sig .tc .vmem S256x45 .f32} {harg4 : arg4.IsWhole}
  {arg5 : Memref sig .tc .vmem S256x2880 .f32} {harg5 : arg5.IsWhole}
  {arg6 : Memref sig .tc .vmem S1x1x256 .f32} {harg6 : arg6.IsWhole}
  {arg7 : Memref sig .tc .vmem S1x2880 .f32} {harg7 : arg7.IsWhole}
  {arg8 : Memref sig .tc .vmem S2048x256 .bf16} {harg8 : arg8.IsWhole}
  {arg16 : Memref sig .tc .vmem S256x2880 .bf16} {harg16 : arg16.IsWhole}
  {arg17 : Memref sig .tc .vmem S256x2880 .f32} {harg17 : arg17.IsWhole}
  {arg18 : Memref sig .tc .vmem S256x2880 .f32} {harg18 : arg18.IsWhole}
  {arg19 : Memref sig .tc .vmem S256x2048 .bf16} {harg19 : arg19.IsWhole}
  {arg20 : Memref sig .tc .vmem S256x128 .f32} {harg20 : arg20.IsWhole}
  {arg21 : Memref sig .tc .vmem S256x128 .f32} {harg21 : arg21.IsWhole}
  {arg22 : Memref sig .tc .vmem S1x2048 .f32} {harg22 : arg22.IsWhole}
  {arg23 : Memref sig .tc .vmem S8x2048 .f32} {harg23 : arg23.IsWhole}
  {arg24 : Memref sig .tc .vmem S256x128 .f32} {harg24 : arg24.IsWhole}
  {arg25 : Memref sig .tc .vmem S8x2880 .f32} {harg25 : arg25.IsWhole}
  {arg26 : Memref sig .tc .vmem S128x256 .f32} {harg26 : arg26.IsWhole}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}
  {xs4 : Vec Ideal S256x128 .f32} {xs6 : Vec Ideal S1x2048 .f32} {xs7 : Vec Ideal S8x2048 .f32}
  {xs9 : Vec Ideal S8x2880 .f32} {xs10 : Vec Ideal S128x256 .f32}

/-- The stores of the dequantised weights, tile by tile. -/
theorem wh_pieces : View.PiecesOf (Val := Elt Ideal) (whG x0 x1 x2 x3 x4 x5 x6 x7)
    (sl.HS0_184 c arg3 harg3 arg4 harg4 arg5 harg5 arg6 harg6 arg7 harg7 arg20 harg20 arg21 x2 x3 x4 x5 x6 xs4) := by
  unfold sl.HS0_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- So the block holds the dequantised weights. -/
theorem wh_canon : View.canon (Val := Elt Ideal) (sl.HS0_184 c arg3 harg3 arg4 harg4 arg5 harg5 arg6 harg6 arg7 harg7 arg20 harg20 arg21 x2 x3 x4 x5 x6 xs4)
    = whG x0 x1 x2 x3 x4 x5 x6 x7 :=
  canon_of_pieces wh_pieces fun y => View.cover_of_tiledBy _ ![32, 64] (by sl_kernel_rfl) y

/-- The stores of the coefficients of the gradient of `s2`, tile by tile. -/
theorem a_pieces : View.PiecesOf (Val := Elt Ideal) (aG x0 x1 x2 x3 x4 x5 x6 x7)
    (sl.HS1_184 c arg3 harg3 arg4 harg4 arg5 harg5 arg6 harg6 arg7 harg7 arg20 harg20 arg21 x2 x3 x4 x5 x6 xs4) := by
  unfold sl.HS1_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      exact aG_at ..
  trivial

/-- So the block holds the coefficients of the gradient of `s2`. -/
theorem a_canon : View.canon (Val := Elt Ideal) (sl.HS1_184 c arg3 harg3 arg4 harg4 arg5 harg5 arg6 harg6 arg7 harg7 arg20 harg20 arg21 x2 x3 x4 x5 x6 xs4)
    = aG x0 x1 x2 x3 x4 x5 x6 x7 :=
  canon_of_pieces a_pieces fun y => View.cover_of_tiledBy _ ![32, 64] (by sl_kernel_rfl) y

/-- The stores of the coefficients of the gradient of `s1`, tile by tile. -/
theorem b_pieces : View.PiecesOf (Val := Elt Ideal) (bG x0 x1 x2 x3 x4 x5 x6 x7)
    (sl.HS2_184 c arg3 harg3 arg4 harg4 arg5 harg5 arg6 harg6 arg7 harg7 arg20 harg20 arg21 x2 x3 x4 x5 x6 xs4) := by
  unfold sl.HS2_184
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- So the block holds the coefficients of the gradient of `s1`. -/
theorem b_canon : View.canon (Val := Elt Ideal) (sl.HS2_184 c arg3 harg3 arg4 harg4 arg5 harg5 arg6 harg6 arg7 harg7 arg20 harg20 arg21 x2 x3 x4 x5 x6 xs4)
    = bG x0 x1 x2 x3 x4 x5 x6 x7 :=
  canon_of_pieces b_pieces fun y => View.cover_of_tiledBy _ ![32, 64] (by sl_kernel_rfl) y

end Cert.KCaseC

end
-- ==== Proof.KGradC.lean ====
/- The forward and the gradient phase at the last kind of grid point: what its stores leave in the blocks it keeps. -/
module

public import proofs.«01_k».proof.Proof.KStep
public import proofs.«01_k».proof.Proof.KQuantC

@[expose] public section

set_option maxRecDepth 16384
set_option maxHeartbeats 0

noncomputable section

namespace Cert.KCaseC

open Idealize.ShloMosaic Idealize.ShloMosaic.TcCoe Cert.KernelIdeal Cert.KernelIdeal.Gen Cert.Spec Cert.KBlock
open Cert.KernelIdeal.Gen.kernelRun0_C

variable {c : Dev nD}
  {arg1 : Memref sig .tc .vmem S2048x2880 .fp8e4m3} {harg1 : arg1.IsWhole}
  {arg2 : Memref sig .tc .vmem S1x2048 .f32} {harg2 : arg2.IsWhole}
  {arg3 : Memref sig .tc .vmem S256x2880 .f32} {harg3 : arg3.IsWhole}
  {arg4 : Memref sig .tc .vmem S256x45 .f32} {harg4 : arg4.IsWhole}
  {arg5 : Memref sig .tc .vmem S256x2880 .f32} {harg5 : arg5.IsWhole}
  {arg6 : Memref sig .tc .vmem S1x1x256 .f32} {harg6 : arg6.IsWhole}
  {arg7 : Memref sig .tc .vmem S1x2880 .f32} {harg7 : arg7.IsWhole}
  {arg8 : Memref sig .tc .vmem S2048x256 .bf16} {harg8 : arg8.IsWhole}
  {arg16 : Memref sig .tc .vmem S256x2880 .bf16} {harg16 : arg16.IsWhole}
  {arg17 : Memref sig .tc .vmem S256x2880 .f32} {harg17 : arg17.IsWhole}
  {arg18 : Memref sig .tc .vmem S256x2880 .f32} {harg18 : arg18.IsWhole}
  {arg19 : Memref sig .tc .vmem S256x2048 .bf16} {harg19 : arg19.IsWhole}
  {arg20 : Memref sig .tc .vmem S256x128 .f32} {harg20 : arg20.IsWhole}
  {arg21 : Memref sig .tc .vmem S256x128 .f32} {harg21 : arg21.IsWhole}
  {arg22 : Memref sig .tc .vmem S1x2048 .f32} {harg22 : arg22.IsWhole}
  {arg23 : Memref sig .tc .vmem S8x2048 .f32} {harg23 : arg23.IsWhole}
  {arg24 : Memref sig .tc .vmem S256x128 .f32} {harg24 : arg24.IsWhole}
  {arg25 : Memref sig .tc .vmem S8x2880 .f32} {harg25 : arg25.IsWhole}
  {arg26 : Memref sig .tc .vmem S128x256 .f32} {harg26 : arg26.IsWhole}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16}
  {xs4 : Vec Ideal S256x128 .f32} {xs6 : Vec Ideal S1x2048 .f32} {xs7 : Vec Ideal S8x2048 .f32}
  {xs9 : Vec Ideal S8x2880 .f32} {xs10 : Vec Ideal S128x256 .f32}

/-- The stores of the gradients that reach the product. -/
theorem et_pieces (hxc : xs6 = xcG x1) : View.PiecesOf (Val := Elt Ideal) (etG x0 x1 x2 x3 x4 x5 x6 x7)
    (sl.HS3_8 c arg1 harg1 arg2 harg2 arg3 harg3 arg4 harg4 arg5 harg5 arg6 harg6 arg7 harg7 arg8 harg8 arg16 arg20 harg20 arg21 arg22 harg22 x0 x1 x2 x3 x4 x5 x6 x7 xs4 xs6) := by
  unfold sl.HS3_8
  iterate 8
    refine pieces_cols _ _ _ _ _ (by decide) (fun r t => ?_) ?_
    · exact e_tile (R := krow x0 x1 x2 x3 x4 x5 x6 x7) _ (by decide) (res_at wh_canon _ (by decide))
        (fun _ t => (read2e _ _ _ _ _ _ _ _ 0 ⟨_ + t.val, by omega⟩ (by simp) (by simp)).trans (congrFun hxc _)) r t
  trivial

/-- So the block holds them. -/
theorem et_canon (hxc : xs6 = xcG x1) : View.canon (Val := Elt Ideal) (sl.HS3_8 c arg1 harg1 arg2 harg2 arg3 harg3 arg4 harg4 arg5 harg5 arg6 harg6 arg7 harg7 arg8 harg8 arg16 arg20 harg20 arg21 arg22 harg22 x0 x1 x2 x3 x4 x5 x6 x7 xs4 xs6)
    = etG x0 x1 x2 x3 x4 x5 x6 x7 :=
  canon_of_pieces (et_pieces hxc) fun y => View.cover_of_tiledBy _ ![256, 256] (by sl_kernel_rfl) y

/-- The rows of the gradients of `s1` after the stores of all groups, over any contents. -/
theorem ds1_rows (hxc : xs6 = xcG x1) (v : View sig .tc .vmem S128x256 .f32) (f : v.ty.Contents (Elt Ideal)) : ∀ (g : Fin 45), g.val < 44 + 1 → ∀ r : Fin 256,
    v.read (Elt Ideal) (v.writes (Elt Ideal) f (sl.HS10_45 c arg1 harg1 arg2 harg2 arg3 harg3 arg4 harg4 arg5 harg5 arg6 harg6 arg7 harg7 arg8 harg8 arg16 arg18 arg19 arg20 harg20 arg21 arg22 harg22 x0 x1 x2 x3 x4 x5 x6 x7 xs4 xs6)) (ix2 ⟨g.val, by omega⟩ r)
      = (krow x0 x1 x2 x3 x4 x5 x6 x7 r).ds1 g := by
  refine rows_step (R := krow x0 x1 x2 x3 x4 x5 x6 x7) _ (by decide) (ds1_at' b_canon (et_canon hxc) _ _ (by decide) (by decide)) ?_
  iterate 44
    refine rows_step (R := krow x0 x1 x2 x3 x4 x5 x6 x7) _ (by decide) (ds1_at b_canon (et_canon hxc) _ _ _ _ (by decide) (by decide) (by decide) (by decide)) ?_
  exact fun g hg => absurd hg (Nat.not_lt_zero _)

/-- After `22` folds the lanes hold the sums of the first `22` blocks of 128 columns. -/
theorem dr_chain (hxc : xs6 = xcG x1) : View.canon (Val := Elt Ideal) (sl.HS8_23 c arg1 harg1 arg2 harg2 arg3 harg3 arg4 harg4 arg5 harg5 arg6 harg6 arg7 harg7 arg8 harg8 arg16 arg17 arg19 arg20 harg20 arg21 arg22 harg22 arg24 x0 x1 x2 x3 x4 x5 x6 x7 xs4 xs6)
    = drG (krow x0 x1 x2 x3 x4 x5 x6 x7) 22 := by
  iterate 22
    refine dr_step _ _ _ (by decide) (by decide) (by decide) ?_ (ds2_at a_canon (et_canon hxc) _ (by decide))
  funext y
  refine (canon_head2 [] 0 0 _ _ y (y 0) (y 1) (by simp) (by simp)).trans ?_
  sl_unfold_run_names
  pointwise
  rfl

/-- After the last fold the lanes hold the sums of all columns. -/
theorem dr_canon (hxc : xs6 = xcG x1) : View.canon (Val := Elt Ideal) (sl.HS8_24 c arg1 harg1 arg2 harg2 arg3 harg3 arg4 harg4 arg5 harg5 arg6 harg6 arg7 harg7 arg8 harg8 arg16 arg17 arg19 arg20 harg20 arg21 arg22 harg22 arg24 x0 x1 x2 x3 x4 x5 x6 x7 xs4 xs6)
    = drG (krow x0 x1 x2 x3 x4 x5 x6 x7) 23 :=
  dr_last (dr_chain hxc) (ds2_at' a_canon (et_canon hxc) _ (by decide))

end Cert.KCaseC

end
-- ==== Proof.KOutC.lean ====
/- What the last kind of grid point stores in each result and keeps for the next point. -/
module

public import proofs.«01_k».proof.Proof.KGradC
public import proofs.«01_k».proof.Proof.Gen.KernelIdeal.Frame

@[expose] public section

set_option maxRecDepth 16384
set_option maxHeartbeats 0

noncomputable section

namespace Cert.KCaseC

open Idealize.ShloMosaic Idealize.ShloMosaic.TcCoe Cert.KernelIdeal Cert.KernelIdeal.Gen Cert.Spec Cert.KBlock
open Cert.KernelIdeal.Gen.kernelRun0_C

variable {c : Dev nD} {i : grid0.Coords} {arg1 : Memref sig .tc .vmem S2048x2880 .fp8e4m3} {harg1 : arg1.IsWhole}
  {arg2 : Memref sig .tc .vmem S1x2048 .f32} {harg2 : arg2.IsWhole} {arg3 : Memref sig .tc .vmem S256x2880 .f32}
  {harg3 : arg3.IsWhole} {arg4 : Memref sig .tc .vmem S256x45 .f32} {harg4 : arg4.IsWhole}
  {arg5 : Memref sig .tc .vmem S256x2880 .f32} {harg5 : arg5.IsWhole} {arg6 : Memref sig .tc .vmem S1x1x256 .f32}
  {harg6 : arg6.IsWhole} {arg7 : Memref sig .tc .vmem S1x2880 .f32} {harg7 : arg7.IsWhole}
  {arg8 : Memref sig .tc .vmem S2048x256 .bf16} {harg8 : arg8.IsWhole} {arg9 : Memref sig .tc .vmem S1x2048 .f32}
  {harg9 : arg9.IsWhole} {arg10 : Memref sig .tc .vmem S256x2880 .f32} {harg10 : arg10.IsWhole}
  {arg11 : Memref sig .tc .vmem S1x1x256 .f32} {harg11 : arg11.IsWhole} {arg12 : Memref sig .tc .vmem S1x2880 .f32}
  {harg12 : arg12.IsWhole} {arg13 : Memref sig .tc .vmem S256x45 .f32} {harg13 : arg13.IsWhole}
  {arg14 : Memref sig .tc .vmem S256x2880 .i8} {harg14 : arg14.IsWhole} {arg15 : Memref sig .tc .vmem S256x45 .f32}
  {harg15 : arg15.IsWhole} {arg16 : Memref sig .tc .vmem S256x2880 .bf16} {harg16 : arg16.IsWhole}
  {arg17 : Memref sig .tc .vmem S256x2880 .f32} {harg17 : arg17.IsWhole} {arg18 : Memref sig .tc .vmem S256x2880 .f32}
  {harg18 : arg18.IsWhole} {arg19 : Memref sig .tc .vmem S256x2048 .bf16} {harg19 : arg19.IsWhole}
  {arg20 : Memref sig .tc .vmem S256x128 .f32} {harg20 : arg20.IsWhole} {arg21 : Memref sig .tc .vmem S256x128 .f32}
  {harg21 : arg21.IsWhole} {arg22 : Memref sig .tc .vmem S1x2048 .f32} {harg22 : arg22.IsWhole}
  {arg23 : Memref sig .tc .vmem S8x2048 .f32} {harg23 : arg23.IsWhole} {arg24 : Memref sig .tc .vmem S256x128 .f32}
  {harg24 : arg24.IsWhole} {arg25 : Memref sig .tc .vmem S8x2880 .f32} {harg25 : arg25.IsWhole}
  {arg26 : Memref sig .tc .vmem S128x256 .f32} {harg26 : arg26.IsWhole} {hc0 : ¬cond0_0 i} {hc1 : cond0_1 i}
  {x0 : Vec Ideal S2048x2880 .fp8e4m3} {x1 : Vec Ideal S1x2048 .f32} {x2 : Vec Ideal S256x2880 .f32}
  {x3 : Vec Ideal S256x45 .f32} {x4 : Vec Ideal S256x2880 .f32} {x5 : Vec Ideal S1x1x256 .f32}
  {x6 : Vec Ideal S1x2880 .f32} {x7 : Vec Ideal S2048x256 .bf16} {xs4 : Vec Ideal S256x128 .f32}
  {xs6 : Vec Ideal S1x2048 .f32} {xs7 : Vec Ideal S8x2048 .f32} {xs9 : Vec Ideal S8x2880 .f32}
  {xs10 : Vec Ideal S128x256 .f32}

/-- The gradients of `s2` of the block. -/
theorem out9 (hxc : xs6 = xcG x1) : out0_C_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = ds2G x0 x1 x2 x3 x4 x5 x6 x7 := by
  unfold out0_C_9
  rw [View.read_writes_junk_eq_canon]
  refine canon_of_pieces ?_ (cover0_C_9 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10)
  unfold kernelRun0_C
  dsimp only
  refine pieces_cols _ _ _ _ _ (by decide) (ds2_at' a_canon (et_canon hxc) _ (by decide)) ?_
  iterate 11
    refine pieces_cols _ _ _ _ _ (by decide) (ds2_at a_canon (et_canon hxc) _ (by decide)) ?_
  trivial

/-- The gradients of `r` of the block. -/
theorem out10 (hxc : xs6 = xcG x1) : out0_C_10 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = fun y => (krow x0 x1 x2 x3 x4 x5 x6 x7 (y 2)).dr := by
  unfold out0_C_10
  rw [View.read_writes_junk_eq_canon]
  unfold kernelRun0_C
  dsimp only
  funext y
  have hy : y = ix3 (y 0) (y 1) (y 2) := by funext a; fin_cases a <;> rfl
  refine (congrFun (View.canon_cons_unit_zero (S := S1x1x256) (by funext a; fin_cases a <;> rfl) _ _ _) y).trans ?_
  exact (congrArg _ hy).trans (pay1925_at (R := krow x0 x1 x2 x3 x4 x5 x6 x7) (dr_canon hxc) (y 0) (y 1) (y 2))

/-- The gradients of `s1` of the block. -/
theorem out12 (hxc : xs6 = xcG x1) : out0_C_12 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = fun y => (krow x0 x1 x2 x3 x4 x5 x6 x7 (y 0)).ds1 (y 1) := by
  unfold out0_C_12
  rw [View.read_writes_junk_eq_canon]
  unfold kernelRun0_C
  dsimp only
  funext y
  refine (canon_head2 [] 0 0 _ _ y (y 0) (y 1) (by simp) (by simp)).trans ?_
  exact pay1_at (R := krow x0 x1 x2 x3 x4 x5 x6 x7) (fun g r => (readWrites2e _ _ _ 0 0 _ _ r ⟨g.val, by omega⟩ r (by simp) (by simp)).trans (ds1_rows hxc _ _ g (by omega) r)) (y 0) (y 1)

/-- The codes of the block. -/
theorem out13 : out0_C_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = codeG x0 x1 x2 x3 x4 x5 x6 x7 := by
  unfold out0_C_13
  rw [View.read_writes_junk_eq_canon]
  refine canon_of_pieces ?_ (cover0_C_13 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10)
  unfold kernelRun0_C
  dsimp only
  iterate 184
    refine pieces2 _ _ _ _ _ _ (by decide) (by decide) (fun i l => ?_) ?_
    · sl_unfold_run_names
      pointwise
      simp (disch := ((try dsimp only); omega)) only [lane_eq, readCov_head2, readWrites_head2, read2]
      pointwise
      simp (disch := ((try dsimp only); omega)) only [read3, Nat.reduceMul, zero_add, Nat.add_zero, Fin.val_zero]
      rfl
  trivial

/-- The scales of the block. -/
theorem out14 : out0_C_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = x3 := by
  unfold out0_C_14
  rw [View.read_writes_junk_eq_canon]
  unfold kernelRun0_C
  dsimp only
  funext y
  have hy : y = ix2 (y 0) (y 1) := by funext a; fin_cases a <;> rfl
  refine (canon_head2 [] 0 0 _ _ y (y 0) (y 1) (by simp) (by simp)).trans ?_
  exact (read2e _ _ _ _ _ _ _ _ (y 0) (y 1) (by simp) (by simp)).trans (congrArg x3 hy.symm)

/-- The losses after the last point's stores. -/
theorem loss_canon : View.canon (Val := Elt Ideal) (sl.HS7_8 c arg1 harg1 arg2 harg2 arg3 harg3 arg4 harg4 arg5 harg5 arg6 harg6 arg7 harg7 arg8 harg8 arg16 arg20 harg20 arg21 arg23 harg23 x0 x1 x2 x3 x4 x5 x6 x7 xs4 xs7)
    = lossG (krow x0 x1 x2 x3 x4 x5 x6 x7) xs7 := by
  refine canon_of_pieces ?_ fun y => View.cover_of_tiledBy _ ![8, 256] (by sl_kernel_rfl) y
  iterate 8
    refine pieces_cols _ _ _ _ _ (by decide) (loss_in _ (by decide) (cols_readI _ _ _ _ (by decide) _) (res_at wh_canon _ (by decide))) ?_
  trivial

/-- The gradients of `c` after the last point's stores. -/
theorem dc_canon (hxc : xs6 = xcG x1) : View.canon (Val := Elt Ideal) (sl.HS9_12 c arg1 harg1 arg2 harg2 arg3 harg3 arg4 harg4 arg5 harg5 arg6 harg6 arg7 harg7 arg8 harg8 arg16 arg17 arg19 arg20 harg20 arg21 arg22 harg22 arg25 harg25 x0 x1 x2 x3 x4 x5 x6 x7 xs4 xs6 xs9)
    = dcG (krow x0 x1 x2 x3 x4 x5 x6 x7) xs9 := by
  refine canon_of_pieces ?_ fun y => View.cover_of_tiledBy _ ![8, 64] (by sl_kernel_rfl) y
  refine pieces_cols _ _ _ _ _ (by decide) (dc_in' _ (by decide) (cols_readI _ _ _ _ (by decide) _) (ds2_at' a_canon (et_canon hxc) _ (by decide))) ?_
  iterate 11
    refine pieces_cols _ _ _ _ _ (by decide) (dc_in _ (by decide) (cols_readI _ _ _ _ (by decide) _) (ds2_at a_canon (et_canon hxc) _ (by decide))) ?_
  trivial

/-- The loss. -/
theorem out8 : out0_C_8 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = fun y => (∑ s : Fin 8, lossG (krow x0 x1 x2 x3 x4 x5 x6 x7) xs7 (ix2 s (y 1))) * ((1 / 7680 : ℝ) : EReal) := by
  unfold out0_C_8
  rw [View.read_writes_junk_eq_canon]
  unfold kernelRun0_C
  dsimp only
  funext y
  refine (canon_head2 [] 0 0 _ _ y (y 0) (y 1) (by simp) (by simp)).trans ((pay2_at _ _ _).trans ?_)
  exact congrArg (· * ((1 / 7680 : ℝ) : EReal)) (Finset.sum_congr rfl fun s _ => readCov2e _ loss_canon 0 0 _ _ _ s (y 1) (by simp) (by simp))

/-- The gradient of `c`. -/
theorem out11 (hxc : xs6 = xcG x1) : out0_C_11 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 arg19 harg19 arg20 harg20 arg21 harg21 arg22 harg22 arg23 harg23 arg24 harg24 arg25 harg25 arg26
    harg26 hc0 hc1 x0 x1 x2 x3 x4 x5 x6 x7 xs4 xs6 xs7 xs9 xs10
    = fun y => ∑ s : Fin 8, dcG (krow x0 x1 x2 x3 x4 x5 x6 x7) xs9 (ix2 s (y 1)) := by
  unfold out0_C_11
  rw [View.read_writes_junk_eq_canon]
  unfold kernelRun0_C
  dsimp only
  funext y
  refine (canon_head2 [] 0 0 _ _ y (y 0) (y 1) (by simp) (by simp)).trans ((pay3_at _ _ _).trans ?_)
  exact (Finset.sum_congr rfl fun s _ => readCov2e _ (dc_canon hxc) 0 0 _ _ _ s (y 1) (by simp) (by simp))

end Cert.KCaseC

end
-- ==== Proof.KGrid.lean ====
/- The grid of the kernel: the rows a point works on, what the points carry from one to the next, and the result arrays. -/
module

public import proofs.«01_k».proof.Proof.KOutA
public import proofs.«01_k».proof.Proof.KOutB
public import proofs.«01_k».proof.Proof.KOutC
public import proofs.«01_k».proof.Proof.Gen.KernelIdeal.Value
public import Idealize.ShloMosaic.Lib.Pipeline.ValueKit

@[expose] public section

set_option maxRecDepth 16384

noncomputable section

namespace Cert.KGrid

open Idealize.ShloMosaic Idealize.ShloMosaic.TcCoe Idealize.SL.Sem
open Cert.KernelIdeal Cert.KernelIdeal.Gen Cert.KernelIdeal.Value Cert.Spec Cert.KBlock

variable (m : (ℓ : Loc nD τ sig) → Buf (Elt Ideal) ℓ)

/-- The block of each input at point `t`: the inputs all rows share are whole, the others are block `t`. -/
theorem idx_val : ∀ t : Fin cfg0.N, win0_0.index t = ![0, 0] ∧ win0_1.index t = ![0, 0] ∧ win0_2.index t = ![t.val, 0]
    ∧ win0_3.index t = ![t.val, 0] ∧ win0_4.index t = ![t.val, 0] ∧ win0_5.index t = ![t.val, 0, 0]
    ∧ win0_6.index t = ![0, 0] ∧ win0_7.index t = ![0, t.val] :=
  (by decide +kernel : ∀ t : Fin grid0.N, _)

variable (c : Dev nD) (t : Fin cfg0.N)

/-- There are thirty points. -/
theorem t_lt : t.val < 30 := lt_of_lt_of_eq t.isLt N_0

/-! Each block at an index, in the argument arrays. -/

/-- The activation codes at point `t` are the whole argument. -/
theorem iblk0_at (s : Fin 2048) (k : Fin 2880) : iblk m c 0 t (ix2 s k)
    = m ((c : Thread nD τ).loc main_arg0) (ix3 ⟨s.val / 1024, by omega⟩ ⟨s.val % 1024, by omega⟩ k) := by
  have h : iblk m c 0 t = V m c main_v0 := by blk_ext! [iblk, idx_val t]
  rw [h]
  entry_read; pointwise

/-- The token scales at point `t` are the whole argument. -/
theorem iblk1_at (s : Fin 2048) : iblk m c 1 t (ix2 0 s)
    = m ((c : Thread nD τ).loc main_arg1) (ix2 ⟨s.val / 1024, by omega⟩ ⟨s.val % 1024, by omega⟩) := by
  have h : iblk m c 1 t = V m c main_v1 := by blk_ext! [iblk, idx_val t]
  rw [h]
  entry_read; pointwise

/-- The weights at point `t` are rows `256 t` to `256 t + 255` of the argument. -/
theorem iblk2_at (r : Fin 256) (k : Fin 2880) : iblk m c 2 t (ix2 r k)
    = m ((c : Thread nD τ).loc main_arg2) (ix2 ⟨t.val * 256 + r.val, by have := t_lt t; omega⟩ k) := by
  show V m c main_arg2 (((cfg0.win 2).blk t).view.emb (ix2 r k)) = V m c main_arg2 _
  congr 1
  funext a
  fin_cases a
  · exact Fin.ext (show win0_2.index t 0 * 256 + 1 * r.val = _ by rw [(idx_val t).2.2.1]; simp [ix2])
  · exact Fin.ext (show win0_2.index t 1 * 2880 + 1 * k.val = _ by rw [(idx_val t).2.2.1]; simp [ix2])

/-- The scales `s1` at point `t` are rows `256 t` to `256 t + 255` of the argument. -/
theorem iblk3_at (r : Fin 256) (k : Fin 45) : iblk m c 3 t (ix2 r k)
    = m ((c : Thread nD τ).loc main_arg3) (ix2 ⟨t.val * 256 + r.val, by have := t_lt t; omega⟩ k) := by
  show V m c main_arg3 (((cfg0.win 3).blk t).view.emb (ix2 r k)) = V m c main_arg3 _
  congr 1
  funext a
  fin_cases a
  · exact Fin.ext (show win0_3.index t 0 * 256 + 1 * r.val = _ by rw [(idx_val t).2.2.2.1]; simp [ix2])
  · exact Fin.ext (show win0_3.index t 1 * 45 + 1 * k.val = _ by rw [(idx_val t).2.2.2.1]; simp [ix2])

/-- The `s2` at point `t` are rows `256 t` to `256 t + 255` of the argument. -/
theorem iblk4_at (r : Fin 256) (k : Fin 2880) : iblk m c 4 t (ix2 r k)
    = m ((c : Thread nD τ).loc main_arg4) (ix2 ⟨t.val * 256 + r.val, by have := t_lt t; omega⟩ k) := by
  show V m c main_arg4 (((cfg0.win 4).blk t).view.emb (ix2 r k)) = V m c main_arg4 _
  congr 1
  funext a
  fin_cases a
  · exact Fin.ext (show win0_4.index t 0 * 256 + 1 * r.val = _ by rw [(idx_val t).2.2.2.2.1]; simp [ix2])
  · exact Fin.ext (show win0_4.index t 1 * 2880 + 1 * k.val = _ by rw [(idx_val t).2.2.2.2.1]; simp [ix2])

/-- The row offsets `r` at point `t` are entries `256 t` to `256 t + 255` of the argument. -/
theorem iblk5_at (r : Fin 256) : iblk m c 5 t (ix3 0 0 r)
    = m ((c : Thread nD τ).loc main_arg5) (ix1 ⟨t.val * 256 + r.val, by have := t_lt t; omega⟩) := by
  have h : iblk m c 5 t (ix3 0 0 r) = V m c main_v2 (ix3 ⟨t.val, t_lt t⟩ 0 r) := by
    show V m c main_v2 (((cfg0.win 5).blk t).view.emb (ix3 0 0 r)) = V m c main_v2 _
    congr 1
    funext a
    fin_cases a
    · exact Fin.ext (show win0_5.index t 0 * 1 + 1 * 0 = _ by rw [(idx_val t).2.2.2.2.2.1]; simp [ix3])
    · exact Fin.ext (show win0_5.index t 1 * 1 + 1 * 0 = _ by rw [(idx_val t).2.2.2.2.2.1]; simp [ix3])
    · exact Fin.ext (show win0_5.index t 2 * 256 + 1 * r.val = _ by rw [(idx_val t).2.2.2.2.2.1]; simp [ix3])
  rw [h]
  entry_read; pointwise

/-- The column offsets `c` at point `t` are the whole argument. -/
theorem iblk6_at (k : Fin 2880) : iblk m c 6 t (ix2 0 k) = m ((c : Thread nD τ).loc main_arg6) (ix1 k) := by
  have h : iblk m c 6 t = V m c main_v3 := by blk_ext! [iblk, idx_val t]
  rw [h]
  entry_read; pointwise

/-- The targets at point `t` are columns `256 t` to `256 t + 255` of the argument. -/
theorem iblk7_at (s : Fin 2048) (r : Fin 256) : iblk m c 7 t (ix2 s r)
    = m ((c : Thread nD τ).loc main_arg7) (ix3 ⟨s.val / 1024, by omega⟩ ⟨s.val % 1024, by omega⟩
        ⟨t.val * 256 + r.val, by have := t_lt t; omega⟩) := by
  have h : iblk m c 7 t (ix2 s r) = V m c main_v4 (ix2 s ⟨t.val * 256 + r.val, by have := t_lt t; omega⟩) := by
    show V m c main_v4 (((cfg0.win 7).blk t).view.emb (ix2 s r)) = V m c main_v4 _
    congr 1
    funext a
    fin_cases a
    · exact Fin.ext (show win0_7.index t 0 * 2048 + 1 * s.val = _ by rw [(idx_val t).2.2.2.2.2.2.2]; simp [ix2])
    · exact Fin.ext (show win0_7.index t 1 * 256 + 1 * r.val = _ by rw [(idx_val t).2.2.2.2.2.2.2]; simp [ix2])
  rw [h]
  entry_read; pointwise

/-- Row `o` of the argument arrays at device `c`. -/
abbrev R (o : Fin 7680) : Row :=
  argRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) o

/-- Row `r` of the block of point `t`. -/
abbrev B (r : Fin 256) : Row :=
  krow (iblk m c 0 t) (iblk m c 1 t) (iblk m c 2 t) (iblk m c 3 t) (iblk m c 4 t) (iblk m c 5 t) (iblk m c 6 t)
    (iblk m c 7 t) r

/-- Row `r` of point `t`'s block is row `256 t + r` of the argument arrays. -/
theorem B_eq (r : Fin 256) : B m c t r = R m c ⟨t.val * 256 + r.val, by have := t_lt t; omega⟩ := by
  unfold B R krow argRow
  congr 1
  · exact funext fun s => funext fun k => iblk0_at m c t s k
  · exact funext fun s => iblk1_at m c t s
  · exact funext fun k => iblk2_at m c t r k
  · exact funext fun k => iblk3_at m c t r k
  · exact funext fun k => iblk4_at m c t r k
  · exact iblk5_at m c t r
  · exact funext fun k => iblk6_at m c t k
  · exact funext fun s => iblk7_at m c t s r

/-- All points read the same token scales. -/
theorem iblk1_eq : iblk m c 1 t = V m c main_v1 := by blk_ext! [iblk, idx_val t]

/-! Sums over the rows of the points so far. -/

/-- `f` at a row number, zero past the last row. -/
def ext (f : Fin 7680 → EReal) (o : ℕ) : EReal := if h : o < 7680 then f ⟨o, h⟩ else 0

/-- The sum of `f` over the rows that leave remainder `s` modulo 8 in the blocks of the first `n` points. -/
def part (f : Fin 7680 → EReal) (n : ℕ) (s : ℕ) : EReal :=
  ∑ p ∈ Finset.range n, ∑ q : Fin 32, ext f (p * 256 + (q.val * 8 + s))

/-- The eight remainders together, after all thirty points, are the sum over all rows. -/
theorem sum_part (f : Fin 7680 → EReal) : ∑ s : Fin 8, part f 30 s.val = ∑ o, f o := by
  have hx : ∀ o : Fin 7680, f o = ext f o.val := fun o => by unfold ext; rw [dif_pos o.isLt]
  rw [Finset.sum_congr rfl fun o _ => hx o, Fin.sum_univ_tiles 30 256 (by norm_num : 30 * 256 = 7680)]
  unfold part
  rw [Finset.sum_comm, ← Fin.sum_univ_eq_sum_range fun p => ∑ s : Fin 8, ∑ q : Fin 32, ext f (p * 256 + (q.val * 8 + s.val))]
  refine Finset.sum_congr rfl fun p _ => ?_
  rw [Finset.sum_comm, Fin.sum_univ_tiles 32 8 (by norm_num : 32 * 8 = 256) fun k : Fin 256 => ext f (p.val * 256 + k.val)]

/-- Point `t` adds the rows of its own block to the sum over the blocks before it. -/
theorem part_succ (f : Fin 7680 → EReal) (s : Fin 8) : part f (t.val + 1) s.val = part f t.val s.val
    + ∑ q : Fin 32, f ⟨t.val * 256 + (q.val * 8 + s.val), by have := t_lt t; omega⟩ := by
  unfold part
  rw [Finset.sum_range_succ]
  congr 1
  refine Finset.sum_congr rfl fun q _ => ?_
  unfold ext
  rw [dif_pos]

/-- The squared residuals summed over the blocks of the first `n` points. -/
def lossP (n : ℕ) : Vec Ideal S8x2048 .f32 := fun y => part (fun o => (R m c o).sq (y 1)) n (y 0).val

/-- The gradients of `s2` summed over the blocks of the first `n` points. -/
def dcP (n : ℕ) : Vec Ideal S8x2880 .f32 := fun y => part (fun o => (R m c o).ds2 (y 1)) n (y 0).val

/-- Point `t` takes the squared residuals summed over the blocks before it to those including its own. -/
theorem lossG_eq : lossG (B m c t) (lossP m c t.val) = lossP m c (t.val + 1) := by
  funext y
  unfold lossG lossP
  rw [part_succ t _ (y 0)]
  simp only [B_eq]

/-- Point `t` takes the gradients of `s2` summed over the blocks before it to those including its own. -/
theorem dcG_eq : dcG (B m c t) (dcP m c t.val) = dcP m c (t.val + 1) := by
  funext y
  unfold dcG dcP
  rw [part_succ t _ (y 0)]
  simp only [B_eq]

/-- What the points before the last carry to the next one: the token scales times the step of the code, and the two sums
over the blocks so far. -/
theorem carry : ∀ n (hn : n < cfg0.N), n < 29 →
    (outsAt0 m c n hn).2.2.2.2.2.2.2.2.1 = xcG (V m c main_v1)
    ∧ (outsAt0 m c n hn).2.2.2.2.2.2.2.2.2.1 = lossP m c (n + 1)
    ∧ (outsAt0 m c n hn).2.2.2.2.2.2.2.2.2.2.1 = dcP m c (n + 1) := by
  intro n
  induction n with
  | zero =>
    intro hn _
    have e := outsAt0_A m c ⟨0, hn⟩ (Nat.zero_mod _) (by show ¬ 0 % 30 = 29; omega)
    rw [show outsAt0 m c 0 hn = _ from e]
    dsimp only
    exact ⟨KCaseA.sout6.trans (by rw [iblk1_eq]), KCaseA.sout7.trans (lossG_eq m c ⟨0, hn⟩),
      KCaseA.sout9.trans (dcG_eq m c ⟨0, hn⟩)⟩
  | succ n ih =>
    intro hn hlt
    obtain ⟨h6, h7, h9⟩ := ih (Nat.lt_of_succ_lt hn) (by omega)
    have e := outsAt0_B m c ⟨n + 1, hn⟩ (by show ¬ (n + 1) % 30 = 0; omega) (by show ¬ (n + 1) % 30 = 29; omega)
    rw [show outsAt0 m c (n + 1) hn = _ from e]
    dsimp only
    refine ⟨h6, KCaseB.sout7.trans ?_, (KCaseB.sout9 (h6.trans ?_)).trans ?_⟩
    · exact (congrArg _ h7).trans (lossG_eq m c ⟨n + 1, hn⟩)
    · rw [iblk1_eq]
    · exact (congrArg _ h9).trans (dcG_eq m c ⟨n + 1, hn⟩)

/-- The token scales a point after the first finds carried. -/
theorem carry6 (h0 : ¬ t.val % 30 = 0) :
    (outsAt0 m c (t.val - 1) (lt_of_le_of_lt (Nat.sub_le _ _) t.isLt)).2.2.2.2.2.2.2.2.1 = xcG (iblk m c 1 t) := by
  have := t_lt t
  rw [iblk1_eq]
  exact (carry m c (t.val - 1) _ (by omega)).1

set_option maxHeartbeats 2000000 in
/-- What point `t` leaves in the blocks of the five results that go out block by block. -/
theorem outs_row :
    (outsAt0 m c t.val t.isLt).2.1 = (fun y => (B m c t (y 0)).ds2 (y 1))
    ∧ (outsAt0 m c t.val t.isLt).2.2.1 = (fun y => (B m c t (y 2)).dr)
    ∧ (outsAt0 m c t.val t.isLt).2.2.2.2.1 = (fun y => (B m c t (y 0)).ds1 (y 1))
    ∧ (outsAt0 m c t.val t.isLt).2.2.2.2.2.1 = (fun y => (B m c t (y 0)).codeWord (y 1))
    ∧ (outsAt0 m c t.val t.isLt).2.2.2.2.2.2.1 = iblk m c 3 t := by
  by_cases h0 : t.val % 30 = 0
  · rw [outsAt0_A m c t h0 (by omega)]
    dsimp only
    exact ⟨KCaseA.out9, KCaseA.out10, KCaseA.out12, KCaseA.out13, KCaseA.out14⟩
  · have hxc := carry6 m c t h0
    by_cases h1 : t.val % 30 = 29
    · rw [outsAt0_C m c t h0 h1]
      dsimp only
      exact ⟨KCaseC.out9 hxc, KCaseC.out10 hxc, KCaseC.out12 hxc, KCaseC.out13, KCaseC.out14⟩
    · rw [outsAt0_B m c t h0 h1]
      dsimp only
      exact ⟨KCaseB.out9 hxc, KCaseB.out10 hxc, KCaseB.out12 hxc, KCaseB.out13, KCaseB.out14⟩

/-- The last point. -/
abbrev tl : Fin cfg0.N := ⟨29, lt_of_lt_of_eq (by decide) N_0.symm⟩

set_option maxHeartbeats 2000000 in
/-- What the last point leaves in the two results summed over all rows. -/
theorem outs_sum :
    (outsAt0 m c 29 tl.isLt).1 = (fun y => (∑ o, (R m c o).sq (y 1)) * ((1 / 7680 : ℝ) : EReal))
    ∧ (outsAt0 m c 29 tl.isLt).2.2.2.1 = (fun y => ∑ o, (R m c o).ds2 (y 1)) := by
  have h0 : ¬ tl.val % 30 = 0 := by decide
  have hxc := carry6 m c tl h0
  obtain ⟨-, h7, h9⟩ := carry m c 28 (lt_of_lt_of_eq (by decide) N_0.symm) (by decide)
  have e := outsAt0_C m c tl h0 (by decide)
  rw [show outsAt0 m c 29 tl.isLt = _ from e]
  dsimp only
  refine ⟨KCaseC.out8.trans (funext fun y => ?_), (KCaseC.out11 hxc).trans (funext fun y => ?_)⟩
  · rw [← sum_part]
    refine congrArg (· * _) (Finset.sum_congr rfl fun s _ => ?_)
    exact congrFun ((congrArg _ h7).trans (lossG_eq m c tl)) (ix2 s (y 1))
  · rw [← sum_part]
    refine Finset.sum_congr rfl fun s _ => ?_
    exact congrFun ((congrArg _ h9).trans (dcG_eq m c tl)) (ix2 s (y 1))

/-! The result arrays. -/

/-- The losses: the mean of the squared residuals over all rows. -/
theorem G8_eq : G8 m c = fun j => (∑ o, (R m c o).sq (j 1)) * ((1 / 7680 : ℝ) : EReal) := by
  rw [G8_last, ← outsAt0_sweep m c 29 tl.isLt]
  exact (outs_sum m c).1

/-- The gradient of `c`: the sum over all rows of the gradients of `s2`. -/
theorem G11_eq : G11 m c = fun j => ∑ o, (R m c o).ds2 (j 1) := by
  rw [G11_last, ← outsAt0_sweep m c 29 tl.isLt]
  exact (outs_sum m c).2

/-- A row of a point's block, by its number among all rows. -/
theorem B_at (p : ℕ) (hp : p < cfg0.N) (r : Fin 256) (o : Fin 7680) (h : p * 256 + r.val = o.val) :
    B m c ⟨p, hp⟩ r = R m c o := (B_eq m c ⟨p, hp⟩ r).trans (congrArg (R m c) (Fin.ext h))

end Cert.KGrid

end
-- ==== Proof.KFinal.lean ====
/- The result arrays of the kernel, entry by entry, in the rows of the argument arrays. -/
module

public import proofs.«01_k».proof.Proof.KGrid

@[expose] public section

set_option maxRecDepth 16384

noncomputable section

namespace Cert.KGrid

open Idealize.ShloMosaic Idealize.ShloMosaic.TcCoe Idealize.SL.Sem
open Cert.KernelIdeal Cert.KernelIdeal.Gen Cert.KernelIdeal.Value Cert.Spec Cert.KBlock

variable (m : (ℓ : Loc nD τ sig) → Buf (Elt Ideal) ℓ) (c : Dev nD)

/-- The point that writes an array entry is the number of the block its row lies in. -/
theorem pt_row (K i0 i1 : ℕ) (h1 : i1 < K) : 1 * (i0 / 256 - 0) + 1 * (i1 / K - 0) = i0 / 256 := by
  rw [Nat.div_eq_of_lt h1]; omega

/-- Every row lies in the block of some point. -/
theorem pt_lt {p o : ℕ} (hp : p = o / 256) (h : o < 7680) : p < cfg0.N := by
  rw [show cfg0.N = 30 from N_0]; omega

/-- A row's number is its block's first row plus its place in the block. -/
theorem pt_mod {p o : ℕ} (hp : p = o / 256) : p * 256 + o % 256 = o := by omega

/-- The gradient of `s2`. -/
theorem G9_eq : G9 m c = fun j => (R m c (j 0)).ds2 (j 1) := by
  funext j
  have h0 : (j 0).val < 7680 := (j 0).isLt
  have h1 : (j 1).val < 2880 := (j 1).isLt
  have hp : pt9Of j = (j 0).val / 256 := pt_row _ _ _ h1
  have hN : pt9Of j < cfg0.N := pt_lt hp h0
  unfold G9
  rw [dif_pos hN, ← outsAt0_sweep m c _ hN]
  have e1 : loc9Of j 1 = j 1 := Fin.ext (show (j 1).val % 2880 = (j 1).val by omega)
  refine (congrFun (outs_row m c ⟨pt9Of j, hN⟩).1 _).trans ?_
  exact (congrArg (fun r : Row => r.ds2 (loc9Of j 1)) (B_at m c _ hN _ (j 0) (pt_mod hp))).trans (congrArg (R m c (j 0)).ds2 e1)

/-- The gradient of `s1`. -/
theorem G12_eq : G12 m c = fun j => (R m c (j 0)).ds1 (j 1) := by
  funext j
  have h0 : (j 0).val < 7680 := (j 0).isLt
  have h1 : (j 1).val < 45 := (j 1).isLt
  have hp : pt12Of j = (j 0).val / 256 := pt_row _ _ _ h1
  have hN : pt12Of j < cfg0.N := pt_lt hp h0
  unfold G12
  rw [dif_pos hN, ← outsAt0_sweep m c _ hN]
  have e1 : loc12Of j 1 = j 1 := Fin.ext (show (j 1).val % 45 = (j 1).val by omega)
  refine (congrFun (outs_row m c ⟨pt12Of j, hN⟩).2.2.1 _).trans ?_
  exact (congrArg (fun r : Row => r.ds1 (loc12Of j 1)) (B_at m c _ hN _ (j 0) (pt_mod hp))).trans (congrArg (R m c (j 0)).ds1 e1)

/-- The codes. -/
theorem G13_eq : G13 m c = fun j => (R m c (j 0)).codeWord (j 1) := by
  funext j
  have h0 : (j 0).val < 7680 := (j 0).isLt
  have h1 : (j 1).val < 2880 := (j 1).isLt
  have hp : pt13Of j = (j 0).val / 256 := pt_row _ _ _ h1
  have hN : pt13Of j < cfg0.N := pt_lt hp h0
  unfold G13
  rw [dif_pos hN, ← outsAt0_sweep m c _ hN]
  have e1 : loc13Of j 1 = j 1 := Fin.ext (show (j 1).val % 2880 = (j 1).val by omega)
  refine (congrFun (outs_row m c ⟨pt13Of j, hN⟩).2.2.2.1 _).trans ?_
  exact (congrArg (fun r : Row => r.codeWord (loc13Of j 1)) (B_at m c _ hN _ (j 0) (pt_mod hp))).trans (congrArg (R m c (j 0)).codeWord e1)

/-- The gradient of `r`. -/
theorem G10_eq : G10 m c = fun j => (R m c ⟨(j 0).val * 256 + (j 2).val, by
    have h0 : (j 0).val < 30 := (j 0).isLt; have h2 : (j 2).val < 256 := (j 2).isLt; omega⟩).dr := by
  funext j
  have h0 : (j 0).val < 30 := (j 0).isLt
  have h1 : (j 1).val < 1 := (j 1).isLt
  have h2 : (j 2).val < 256 := (j 2).isLt
  have hp : pt10Of j = (j 0).val := by show 1 * ((j 0).val / 1 - 0) + 1 * ((j 1).val / 1 - 0) + 1 * ((j 2).val / 256 - 0) = _; omega
  have hN : pt10Of j < cfg0.N := by rw [show cfg0.N = 30 from N_0]; omega
  unfold G10
  rw [dif_pos hN, ← outsAt0_sweep m c _ hN]
  refine (congrFun (outs_row m c ⟨pt10Of j, hN⟩).2.1 _).trans ?_
  exact congrArg Row.dr (B_at m c _ hN _ _ (by show pt10Of j * 256 + (j 2).val % 256 = (j 0).val * 256 + (j 2).val; omega))

/-- The scales are handed through. -/
theorem G14_eq : G14 m c = m ((c : Thread nD τ).loc main_arg3) := by
  funext j
  have h0 : (j 0).val < 7680 := (j 0).isLt
  have h1 : (j 1).val < 45 := (j 1).isLt
  have hp : pt14Of j = (j 0).val / 256 := pt_row _ _ _ h1
  have hN : pt14Of j < cfg0.N := pt_lt hp h0
  unfold G14
  rw [dif_pos hN, ← outsAt0_sweep m c _ hN]
  refine (congrFun (outs_row m c ⟨pt14Of j, hN⟩).2.2.2.2 _).trans ?_
  have e : loc14Of j = ix2 ⟨(j 0).val % 256, by omega⟩ ⟨(j 1).val % 45, by omega⟩ := by funext a; fin_cases a <;> rfl
  rw [e, iblk3_at]
  congr 1
  funext a
  fin_cases a
  · exact Fin.ext (pt_mod hp)
  · exact Fin.ext (show (j 1).val % 45 = (j 1).val by omega)

end Cert.KGrid

end
-- ==== Proof.lean ====
/- The five claims, put together: the frames of the three programs are the generated ones; `preserves` is the rule of
   the one named constant; `algebraic` sets the kernel's seven result arrays (`Cert.KGrid.G8_eq` to `G14_eq`) beside the
   reference's (`Cert.RefValue.final8` to `final14`), both written in the rows of the argument arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.RefRun
public import proofs.«01_k».proof.Proof.KFinal
public import Idealize.ShloMosaic.Adequacy
public import Idealize.ShloMosaic.Init

@[expose] public section

noncomputable section

namespace Cert.Proof

open Idealize.ShloMosaic Idealize.SL.Sem Cert.Kernel

/-- Where the reference's arguments are the kernel's, so are the rows: the two programs' row functions agree. -/
theorem row_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.RefValue.R m' c = Cert.KGrid.R m c := by
  funext o
  unfold Cert.RefValue.R Cert.KGrid.R
  rw [h0, h1, h2, h3, h4, h5, h6, h7]

/-- The kernel and the reference compute the same seven results, each from its own arguments, which agree. -/
theorem algebraic : Cert.algebraic_KernelIdeal_ReferenceIdeal := by
  intro m g m' g' _ hargs
  have hR : ∀ c : Dev Cert.KernelIdeal.nD, Cert.RefValue.R m' c = Cert.KGrid.R m c := fun c =>
    row_agree m m' c (hargs c).1 (hargs c).2.1 (hargs c).2.2.1 (hargs c).2.2.2.1 (hargs c).2.2.2.2.1
      (hargs c).2.2.2.2.2.1 (hargs c).2.2.2.2.2.2.1 (hargs c).2.2.2.2.2.2.2
  refine ⟨_, _, _, _, _, _, _, Cert.KernelIdeal.Value.run m g, ?_⟩
  refine θ_run_mono (Cert.ReferenceIdeal.Value.run_blocks m' g') fun r h c => ?_
  obtain ⟨e8, e9, e10, e11, e12, e13, e14, ha⟩ := h c
  refine ⟨e8.trans ?_, e9.trans ?_, e10.trans ?_, e11.trans ?_, e12.trans ?_, e13.trans ?_, e14.trans ?_, ha⟩
  · rw [Cert.RefValue.final8, hR]; exact (Cert.KGrid.G8_eq m c).symm
  · rw [Cert.RefValue.final9, hR]; exact (Cert.KGrid.G9_eq m c).symm
  · rw [Cert.RefValue.final10, hR]; exact (Cert.KGrid.G10_eq m c).symm
  · rw [Cert.RefValue.final11, hR]; exact (Cert.KGrid.G11_eq m c).symm
  · rw [Cert.RefValue.final12, hR]; exact (Cert.KGrid.G12_eq m c).symm
  · rw [Cert.RefValue.final13, hR]; exact (Cert.KGrid.G13_eq m c).symm
  · rw [Cert.RefValue.final14]; exact (hargs c).2.2.2.1.trans (Cert.KGrid.G14_eq m c).symm

/-- The one constant named: its word is `1 / 7680` rounded, and it is read as `1 / 7680`. -/
theorem preserves : Cert.preserves_Kernel_KernelIdeal :=
  IdealRules.named_const.statement Cert.KernelIdeal.κ "inv_d_out" .f32 0x39088889#32 ((1 / 7680 : ℝ) : EReal) rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, preserves, algebraic⟩

end Cert.Proof

end
